-- ==== Defs.lean ====
def Pre_KernelIdeal [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def quiescent_KernelIdeal [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def algebraic_KernelIdeal_ReferenceIdeal [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gather_GatherIdeal : Prop :=
  True

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v6) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherRefIdeal : Cert.GatherRefIdeal.Facts) (hPre_apart : Cert.Pre_apart.Facts) (hPre_idx_in_rows : Cert.Pre_idx_in_rows.Facts),
    quiescent_KernelIdeal (hKernelIdeal := hKernelIdeal) (hPre_apart := hPre_apart)
    ∧ quiescent_ReferenceIdeal (hReferenceIdeal := hReferenceIdeal) (hPre_apart := hPre_apart)
    ∧ quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal) (hPre_idx_in_rows := hPre_idx_in_rows)
    ∧ algebraic_KernelIdeal_ReferenceIdeal (hKernelIdeal := hKernelIdeal) (hReferenceIdeal := hReferenceIdeal) (hPre_apart := hPre_apart)
    ∧ preserves_Gather_GatherIdeal
    ∧ algebraic_GatherIdeal_GatherRefIdeal (hGatherIdeal := hGatherIdeal) (hGatherRefIdeal := hGatherRefIdeal) (hPre_idx_in_rows := hPre_idx_in_rows)
-- ==== Pre_apart.lean ====
abbrev S1x8192x64 : Shape := ⟨3, ![1, 8192, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S1x8192 : Shape := ⟨2, ![1, 8192]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S8192x8192 : Shape := ⟨2, ![8192, 8192]⟩
abbrev S1x8192x17 : Shape := ⟨3, ![1, 8192, 17]⟩

class Facts : Prop where
  reducesTo_S1x8192x64_S1x8192_d2 : S1x8192x64.ReducesTo [2] S1x8192
  h_S_ : 0 < S_.numel
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  bcast_S_S8192x8192 : S_.BroadcastsInDim S8192x8192 (![] : Fin 0 → Fin S8192x8192.rank)
  bcast_S8192x8192_S1x8192x8192_1_2 : S8192x8192.BroadcastsInDim S1x8192x8192 (![1, 2] : Fin 2 → Fin S1x8192x8192.rank)
  sliceFits_S1x8192x8192_S1x8192x17 : S1x8192x8192.Slices (fun _ => 0) S1x8192x17
  bcast_S_S1x8192x64 : S_.BroadcastsInDim S1x8192x64 (![] : Fin 0 → Fin S1x8192x64.rank)
  reducesTo_S1x8192x64_S_d0_1_2 : S1x8192x64.ReducesTo [0, 1, 2] S_
  bcast_S_S64x128 : S_.BroadcastsInDim S64x128 (![] : Fin 0 → Fin S64x128.rank)
  reducesTo_S64x128_S_d0_1 : S64x128.ReducesTo [0, 1] S_
  slices_S1x8192x17_S1x8192x1_0_0_15 : S1x8192x17.Slices ![0, 0, 15] S1x8192x1
  shapeCasts_S1x8192x1_S1x8192 : S1x8192x1.ShapeCasts S1x8192
  slices_S1x8192x17_S1x8192x1_0_0_16 : S1x8192x17.Slices ![0, 0, 16] S1x8192x1
  reducesTo_S1x8192_S_d0_1 : S1x8192.ReducesTo [0, 1] S_
  dot_S1x8192x64_S1x8192x64_S1x8192x8192_2_2_1_1_0_0_wf : DotDims.WF S1x8192x64 S1x8192x64 S1x8192x8192 [2] [2] [1] [1] [0] [0]

variable [Facts]

def dot_S1x8192x64_S1x8192x64_S1x8192x8192_2_2_1_1_0_0 : DotDims S1x8192x64 S1x8192x64 S1x8192x8192 where
  lhsContracting := [2]
  rhsContracting := [2]
  lhsNonContracting := [1]
  rhsNonContracting := [1]
  lhsBatch := [0]
  rhsBatch := [0]
  wf := dot_S1x8192x64_S1x8192x64_S1x8192x8192_2_2_1_1_0_0_wf
def fn_where {F : FTy → Type} [FloatOps F] (arg0 : IVec S1x8192x8192 1) (arg1 : FVec F S_ .f32) (arg2 : FVec F S1x8192x8192 .f32) : FVec F S1x8192x8192 .f32 :=
  let v0 : FVec F S_ .f32 := id arg1
  let v1 : FVec F S1x8192x8192 .f32 := broadcastInDim S1x8192x8192 ![] bcast_S_S1x8192x8192 v0
  let v2 : FVec F S1x8192x8192 .f32 := select arg0 v1 arg2
  v2

def fn_part2 {F : FTy → Type} [FloatOps F] (main_v30 : IVec S_ 1) (main_v35 : IVec S1x8192 1) (main_c_7 : IVec S_ 1) : IVec S_ 1 :=
  let main_v36 : IVec S_ 1 := (fun x v => Host.reduce IntOp.andi x v reducesTo_S1x8192_S_d0_1 h_S_) main_v35 main_c_7
  let main_v37 : IVec S_ 1 := andi main_v30 main_v36
  main_v37

def fn_part1 {F : FTy → Type} [FloatOps F] (main_arg0 : FVec F S1x8192x64 .f32) (main_arg1 : FVec F S64x128 .f32) (main_v13 : FVec F S1x8192x8192 .f32) (main_v19 : IVec S1x8192x8192 1) : IVec S_ 1 :=
  let main_cst_2 : FVec F S_ .f32 := constant S_ .f32 0x7F800000#32
  let main_v20 : FVec F S1x8192x8192 .f32 := fn_where (F := F) main_v19 main_cst_2 main_v13
  let main_v21 : FVec F S1x8192x8192 .f32 := Host.negf main_v20
  let main_values : FVec F S1x8192x17 .f32 := (fun x => (Host.topK S1x8192x17 2 (FloatOps.cmpfTotal .gt) x sliceFits_S1x8192x8192_S1x8192x17).1) main_v21
  let main_indices : IVec S1x8192x17 32 := (fun x => (Host.topK S1x8192x17 2 (FloatOps.cmpfTotal .gt) x sliceFits_S1x8192x8192_S1x8192x17).2) main_v21
  let main_v22 : FVec F S1x8192x64 .f32 := Host.absf main_arg0
  let main_cst_3 : FVec F S_ .f32 := constant S_ .f32 0x7F800000#32
  let main_v23 : FVec F S1x8192x64 .f32 := broadcastInDim S1x8192x64 ![] bcast_S_S1x8192x64 main_cst_3
  let main_v24 : IVec S1x8192x64 1 := cmpf .olt main_v22 main_v23
  let main_c_4 : IVec S_ 1 := constantI S_ 1 1#1
  let main_v25 : IVec S_ 1 := (fun x v => Host.reduce IntOp.andi x v reducesTo_S1x8192x64_S_d0_1_2 h_S_) main_v24 main_c_4
  let main_v26 : FVec F S64x128 .f32 := Host.absf main_arg1
  let main_cst_5 : FVec F S_ .f32 := constant S_ .f32 0x7F800000#32
  let main_v27 : FVec F S64x128 .f32 := broadcastInDim S64x128 ![] bcast_S_S64x128 main_cst_5
  let main_v28 : IVec S64x128 1 := cmpf .olt main_v26 main_v27
  let main_c_6 : IVec S_ 1 := constantI S_ 1 1#1
  let main_v29 : IVec S_ 1 := (fun x v => Host.reduce IntOp.andi x v reducesTo_S64x128_S_d0_1 h_S_) main_v28 main_c_6
  let main_v30 : IVec S_ 1 := andi main_v25 main_v29
  let main_v31 : FVec F S1x8192x1 .f32 := (extractStridedSlice S1x8192x1 ![0, 0, 15] · slices_S1x8192x17_S1x8192x1_0_0_15) main_values
  let main_v32 : FVec F S1x8192 .f32 := shapeCast S1x8192 main_v31 shapeCasts_S1x8192x1_S1x8192
  let main_v33 : FVec F S1x8192x1 .f32 := (extractStridedSlice S1x8192x1 ![0, 0, 16] · slices_S1x8192x17_S1x8192x1_0_0_16) main_values
  let main_v34 : FVec F S1x8192 .f32 := shapeCast S1x8192 main_v33 shapeCasts_S1x8192x1_S1x8192
  let main_v35 : IVec S1x8192 1 := cmpf .ogt main_v32 main_v34
  let main_c_7 : IVec S_ 1 := constantI S_ 1 1#1
  fn_part2 (F := F) main_v30 main_v35 main_c_7

def fn {F : FTy → Type} [FloatOps F] (main_arg0 : FVec F S1x8192x64 .f32) (main_arg1 : FVec F S64x128 .f32) (main_arg2 : FVec F S64 .f32) (main_arg3 : FVec F S64x64 .f32) (main_arg4 : FVec F S64 .f32) : IVec S_ 1 :=
  let main_v0 : FVec F S1x8192x64 .f32 := mulf main_arg0 main_arg0
  let main_cst : FVec F S_ .f32 := constant S_ .f32 0x00000000#32
  let main_v1 : FVec F S1x8192 .f32 := (fun x v => Host.reduceAdd x v reducesTo_S1x8192x64_S1x8192_d2 h_S_) main_v0 main_cst
  let main_v2 : FVec F S1x8192x1 .f32 := broadcastInDim S1x8192x1 ![0, 1] bcast_S1x8192_S1x8192x1_0_1 main_v1
  let main_v3 : FVec F S1x1x8192 .f32 := broadcastInDim S1x1x8192 ![0, 2] bcast_S1x8192_S1x1x8192_0_2 main_v1
  let main_v4 : FVec F S1x8192x8192 .f32 := broadcastInDim S1x8192x8192 ![0, 1, 2] bcast_S1x8192x1_S1x8192x8192_0_1_2 main_v2
  let main_v5 : FVec F S1x8192x8192 .f32 := broadcastInDim S1x8192x8192 ![0, 1, 2] bcast_S1x1x8192_S1x8192x8192_0_1_2 main_v3
  let main_v6 : FVec F S1x8192x8192 .f32 := addf main_v4 main_v5
  let main_v7 : FVec F S1x8192x8192 .f32 := (fun l r => Host.dotGeneral dot_S1x8192x64_S1x8192x64_S1x8192x8192_2_2_1_1_0_0 none l r) main_arg0 main_arg0
  let main_cst_0 : FVec F S_ .f32 := constant S_ .f32 0x40000000#32
  let main_v8 : FVec F S1x8192x8192 .f32 := broadcastInDim S1x8192x8192 ![] bcast_S_S1x8192x8192 main_cst_0
  let main_v9 : FVec F S1x8192x8192 .f32 := mulf main_v8 main_v7
  let main_v10 : FVec F S1x8192x8192 .f32 := subf main_v6 main_v9
  let main_cst_1 : FVec F S_ .f32 := constant S_ .f32 0x00000000#32
  let main_v11 : FVec F S1x8192x8192 .f32 := broadcastInDim S1x8192x8192 ![] bcast_S_S1x8192x8192 main_cst_1
  let main_v12 : FVec F S1x8192x8192 .f32 := maximumf main_v10 main_v11
  let main_v13 : FVec F S1x8192x8192 .f32 := Host.sqrt main_v12
  let main_v14 : IVec S8192x8192 32 := iotaInDim S8192x8192 32 0
  let main_v15 : IVec S8192x8192 32 := iotaInDim S8192x8192 32 1
  let main_c : IVec S_ 32 := constantI S_ 32 0#32
  let main_v16 : IVec S8192x8192 32 := broadcastInDim S8192x8192 ![] bcast_S_S8192x8192 main_c
  let main_v17 : IVec S8192x8192 32 := addi main_v14 main_v16
  let main_v18 : IVec S8192x8192 1 := cmpi .eq main_v17 main_v15
  let main_v19 : IVec S1x8192x8192 1 := broadcastInDim S1x8192x8192 ![1, 2] bcast_S8192x8192_S1x8192x8192_1_2 main_v18
  fn_part1 (F := F) main_arg0 main_arg1 main_v13 main_v19
-- ==== Pre_idx_in_rows.lean ====
abbrev S8192x128 : Shape := ⟨2, ![8192, 128]⟩
abbrev S131072 : Shape := ⟨1, ![131072]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : FVec F S8192x128 .f32) (main_arg1 : IVec S131072 32) : IVec S131072 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 8192#32
  let main_v2 : IVec S131072 32 := broadcastInDim S131072 ![] bcast_S_S131072 main_c_0
  let main_v3 : IVec S131072 1 := cmpi .slt main_arg1 main_v2
  let main_v4 : IVec S131072 1 := andi main_v1 main_v3
  main_v4
-- ==== KernelIdeal.lean ====
abbrev S1x8192x64 : Shape := ⟨3, ![1, 8192, 64]⟩
abbrev S64x128 : Shape := ⟨2, ![64, 128]⟩
abbrev S64 : Shape := ⟨1, ![64]⟩
abbrev S64x64 : Shape := ⟨2, ![64, 64]⟩
abbrev S8192x64 : Shape := ⟨2, ![8192, 64]⟩
abbrev S1x64 : Shape := ⟨2, ![1, 64]⟩
abbrev S16x8192 : Shape := ⟨2, ![16, 8192]⟩
abbrev S8192x128 : Shape := ⟨2, ![8192, 128]⟩
abbrev S256x64 : Shape := ⟨2, ![256, 64]⟩
abbrev S16x256 : Shape := ⟨2, ![16, 256]⟩
abbrev S256x128 : Shape := ⟨2, ![256, 128]⟩
abbrev S8192 : Shape := ⟨1, ![8192]⟩
abbrev S8192x1 : Shape := ⟨2, ![8192, 1]⟩
abbrev S256 : Shape := ⟨1, ![256]⟩
abbrev S1x256 : Shape := ⟨2, ![1, 256]⟩
abbrev S8192x256 : Shape := ⟨2, ![8192, 256]⟩
abbrev S128x256 : Shape := ⟨2, ![128, 256]⟩
abbrev S1x128x256 : Shape := ⟨3, ![1, 128, 256]⟩
abbrev S1 : Shape := ⟨1, ![1]⟩
abbrev S1x1x1 : Shape := ⟨3, ![1, 1, 1]⟩
abbrev S131072 : Shape := ⟨1, ![131072]⟩
abbrev S131072x128 : Shape := ⟨2, ![131072, 128]⟩
abbrev S512 : Shape := ⟨1, ![512]⟩
abbrev S512x128 : Shape := ⟨2, ![512, 128]⟩
abbrev S_ : Shape := ⟨0, ![]⟩
abbrev S16x8192x128 : Shape := ⟨3, ![16, 8192, 128]⟩
abbrev S16x256x128 : Shape := ⟨3, ![16, 256, 128]⟩
abbrev S16x256x64 : Shape := ⟨3, ![16, 256, 64]⟩
abbrev S1x256x64 : Shape := ⟨3, ![1, 256, 64]⟩
abbrev S4096x64 : Shape := ⟨2, ![4096, 64]⟩

abbrev nBuf : Table → Nat
  | .hbm => 22
  | .local .tc .vmem => 20
  | .local .scVector .vmem => 2
  | _ => 0

abbrev bufTy : (tb : Table) → Fin (nBuf tb) → BufTy
  | .hbm, ⟨0, _⟩ => ⟨S1x8192x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8192x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S1x64, .f32⟩
  | .hbm, ⟨12, _⟩ => ⟨S64x64, .f32⟩
  | .hbm, ⟨13, _⟩ => ⟨S1x64, .f32⟩
  | .hbm, ⟨14, _⟩ => ⟨S16x8192, .i32⟩
  | .hbm, ⟨15, _⟩ => ⟨S8192x64, .f32⟩
  | .hbm, ⟨16, _⟩ => ⟨S8192x128, .f32⟩
  | .hbm, ⟨17, _⟩ => ⟨S131072, .i32⟩
  | .hbm, ⟨18, _⟩ => ⟨S131072x128, .f32⟩
  | .hbm, ⟨19, _⟩ => ⟨S16x8192x128, .f32⟩
  | .hbm, ⟨20, _⟩ => ⟨S8192x64, .f32⟩
  | .hbm, ⟨21, _⟩ => ⟨S1x8192x64, .f32⟩
  | .local .tc .vmem, ⟨0, _⟩ => ⟨S8192x64, .f32⟩
  | .local .tc .vmem, ⟨1, _⟩ => ⟨S256x64, .f32⟩
  | .local .tc .vmem, ⟨2, _⟩ => ⟨S256x64, .f32⟩
  | .local .tc .vmem, ⟨3, _⟩ => ⟨S64x64, .f32⟩
  | .local .tc .vmem, ⟨4, _⟩ => ⟨S64x64, .f32⟩
  | .local .tc .vmem, ⟨5, _⟩ => ⟨S1x64, .f32⟩
  | .local .tc .vmem, ⟨6, _⟩ => ⟨S16x256, .i32⟩
  | .local .tc .vmem, ⟨7, _⟩ => ⟨S16x256, .i32⟩
  | .local .tc .vmem, ⟨8, _⟩ => ⟨S256x64, .f32⟩
  | .local .tc .vmem, ⟨9, _⟩ => ⟨S256x64, .f32⟩
  | .local .tc .vmem, ⟨10, _⟩ => ⟨S256x128, .f32⟩
  | .local .tc .vmem, ⟨11, _⟩ => ⟨S256x128, .f32⟩
  | .local .tc .vmem, ⟨12, _⟩ => ⟨S256x64, .f32⟩
  | .local .tc .vmem, ⟨13, _⟩ => ⟨S256x64, .f32⟩
  | .local .tc .vmem, ⟨14, _⟩ => ⟨S16x256x128, .f32⟩
  | .local .tc .vmem, ⟨15, _⟩ => ⟨S16x256x128, .f32⟩
  | .local .tc .vmem, ⟨16, _⟩ => ⟨S64x64, .f32⟩
  | .local .tc .vmem, ⟨17, _⟩ => ⟨S1x64, .f32⟩
  | .local .tc .vmem, ⟨18, _⟩ => ⟨S256x64, .f32⟩
  | .local .tc .vmem, ⟨19, _⟩ => ⟨S256x64, .f32⟩
  | .local .scVector .vmem, ⟨0, _⟩ => ⟨S512, .i32⟩
  | .local .scVector .vmem, ⟨1, _⟩ => ⟨S512x128, .f32⟩
  | _, _ => ⟨S1x8192x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v9_2_scv : Ref sig .scVector := ⟨.hbm, 16, rfl⟩
abbrev main_v10_scv : Ref sig .scVector := ⟨.hbm, 17, rfl⟩
abbrev main_v11_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg8 : BitVec 32 := Scf.iv c0_i32 c1_i32 k1_t1
  let c1_i32_1 : BitVec 32 := 1#32
  let v4 : BitVec 32 := Scalar.muli arg8 c1_i32_1
  let v5 : BitVec 32 := Scalar.addi c0_i32_2 v4
  let c512_i32 : BitVec 32 := 512#32
  let v6 : BitVec 32 := Scalar.muli v5 c512_i32
  let v7 : BitVec 32 := Scalar.addi v2 v6
  ![v7.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg8 : BitVec 32 := Scf.iv c0_i32 c1_i32 k1_t1
  let c1_i32_1 : BitVec 32 := 1#32
  let v4 : BitVec 32 := Scalar.muli arg8 c1_i32_1
  let v5 : BitVec 32 := Scalar.addi c0_i32_2 v4
  let c512_i32 : BitVec 32 := 512#32
  let v6 : BitVec 32 := Scalar.muli v5 c512_i32
  let v7 : BitVec 32 := Scalar.addi v2 v6
  let c0_i32_7_r1 : BitVec 32 := 0#32
  ![v7.toNat, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x8192x64 : Shape := ⟨3, ![1, 8192, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S1x8192 : Shape := ⟨2, ![1, 8192]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S8192x8192 : Shape := ⟨2, ![8192, 8192]⟩
abbrev S1x8192x16 : Shape := ⟨3, ![1, 8192, 16]⟩
abbrev S1x8192x16x1 : Shape := ⟨4, ![1, 8192, 16, 1]⟩
abbrev S1x8192x16x64 : Shape := ⟨4, ![1, 8192, 16, 64]⟩
abbrev S1x8192x1x64 : Shape := ⟨4, ![1, 8192, 1, 64]⟩
abbrev S1x8192x16x128 : Shape := ⟨4, ![1, 8192, 16, 128]⟩
abbrev S128x64 : Shape := ⟨2, ![128, 64]⟩
abbrev S1x1x1x64 : Shape := ⟨4, ![1, 1, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S1x8192x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x8192x64, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S1x1x8192, .f32⟩
  | .hbm, ⟨10, _⟩ => ⟨S1x8192x8192, .f32⟩
  | .hbm, ⟨11, _⟩ => ⟨S1x8192x8192, .f32⟩
  | .hbm, ⟨12, _⟩ => ⟨S1x8192x8192, .f32⟩
  | .hbm, ⟨13, _⟩ => ⟨S1x8192x8192, .f32⟩
  | .hbm, ⟨14, _⟩ => ⟨S_, .f32⟩
  | .hbm, ⟨15, _⟩ => ⟨S1x8192x8192, .f32⟩
  | .hbm, ⟨16, _⟩ => ⟨S1x8192x8192, .f32⟩
  | .hbm, ⟨17, _⟩ => ⟨S1x8192x8192, .f32⟩
  | .hbm, ⟨18, _⟩ => ⟨S_, .f32⟩
  | .hbm, ⟨19, _⟩ => ⟨S1x8192x8192, .f32⟩
  | .hbm, ⟨20, _⟩ => ⟨S1x8192x8192, .f32⟩
  | .hbm, ⟨21, _⟩ => ⟨S1x8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S1x8192x8192, .f32⟩
  | .hbm, ⟨32, _⟩ => ⟨S1x8192x8192, .f32⟩
  | .hbm, ⟨33, _⟩ => ⟨S1x8192x8192, .f32⟩
  | .hbm, ⟨34, _⟩ => ⟨S1x8192x16, .f32⟩
  | .hbm, ⟨35, _⟩ => ⟨S1x8192x16, .i32⟩
  | .hbm, ⟨36, _⟩ => ⟨S_, .i32⟩
  | .hbm, ⟨37, _⟩ => ⟨S1x8192x16, .i32⟩
  | .hbm, ⟨38, _⟩ => ⟨S1x8192x16, .i1⟩
  | .hbm, ⟨39, _⟩ => ⟨S_, .i32⟩
  | .hbm, ⟨40, _⟩ => ⟨S1x8192x16, .i32⟩
  | .hbm, ⟨41, _⟩ => ⟨S1x8192x16, .i32⟩
  | .hbm, ⟨42, _⟩ => ⟨S1x8192x16, .i32⟩
  | .hbm, ⟨43, _⟩ => ⟨S1x8192x16x1, .i32⟩
  | .hbm, ⟨44, _⟩ => ⟨S1x8192x16x64, .f32⟩
  | .hbm, ⟨45, _⟩ => ⟨S1x8192x1x64, .f32⟩
  | .hbm, ⟨46, _⟩ => ⟨S1x8192x16x64, .f32⟩
  | .hbm, ⟨47, _⟩ => ⟨S1x8192x16x64, .f32⟩
  | .hbm, ⟨48, _⟩ => ⟨S1x8192x16x128, .f32⟩
  | .hbm, ⟨49, _⟩ => ⟨S128x64, .f32⟩
  | .hbm, ⟨50, _⟩ => ⟨S1x8192x16x64, .f32⟩
  | .hbm, ⟨51, _⟩ => ⟨S1x1x1x64, .f32⟩
  | .hbm, ⟨52, _⟩ => ⟨S1x8192x16x64, .f32⟩
  | .hbm, ⟨53, _⟩ => ⟨S1x8192x16x64, .f32⟩
  | .hbm, ⟨54, _⟩ => ⟨S_, .f32⟩
  | .hbm, ⟨55, _⟩ => ⟨S1x8192x16x64, .f32⟩
  | .hbm, ⟨56, _⟩ => ⟨S1x8192x16x64, .f32⟩
  | .hbm, ⟨57, _⟩ => ⟨S1x8192x16x64, .f32⟩
  | .hbm, ⟨58, _⟩ => ⟨S_, .f32⟩
  | .hbm, ⟨59, _⟩ => ⟨S1x8192x16x64, .f32⟩
  | .hbm, ⟨60, _⟩ => ⟨S1x8192x16x64, .f32⟩
  | .hbm, ⟨61, _⟩ => ⟨S1x8192x16x64, .f32⟩
  | .hbm, ⟨62, _⟩ => ⟨S1x8192x16x64, .f32⟩
  | .hbm, ⟨63, _⟩ => ⟨S64x64, .f32⟩
  | .hbm, ⟨64, _⟩ => ⟨S1x8192x16x64, .f32⟩
  | .hbm, ⟨65, _⟩ => ⟨S1x1x1x64, .f32⟩
  | .hbm, ⟨66, _⟩ => ⟨S1x8192x16x64, .f32⟩
  | .hbm, ⟨67, _⟩ => ⟨S1x8192x16x64, .f32⟩
  | .hbm, ⟨68, _⟩ => ⟨S_, .f32⟩
  | .hbm, ⟨69, _⟩ => ⟨S1x8192x16x64, .f32⟩
  | .hbm, ⟨70, _⟩ => ⟨S1x8192x16x64, .f32⟩
  | .hbm, ⟨71, _⟩ => ⟨S1x8192x16x64, .f32⟩
  | .hbm, ⟨72, _⟩ => ⟨S_, .f32⟩
  | .hbm, ⟨73, _⟩ => ⟨S1x8192x16x64, .f32⟩
  | .hbm, ⟨74, _⟩ => ⟨S1x8192x16x64, .f32⟩
  | .hbm, ⟨75, _⟩ => ⟨S1x8192x16x64, .f32⟩
  | .hbm, ⟨76, _⟩ => ⟨S1x8192x16x64, .f32⟩
  | .hbm, ⟨77, _⟩ => ⟨S_, .f32⟩
  | .hbm, ⟨78, _⟩ => ⟨S1x8192x64, .f32⟩
  | _, _ => ⟨S1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Gather.lean ====
abbrev S8192x128 : Shape := ⟨2, ![8192, 128]⟩
abbrev S131072 : Shape := ⟨1, ![131072]⟩
abbrev S131072x128 : Shape := ⟨2, ![131072, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S8192x128, .f32⟩
  | .hbm, ⟨1, _⟩ => ⟨S131072, .i32⟩
  | .hbm, ⟨2, _⟩ => ⟨S131072x128, .f32⟩
  | .local .scVector .vmem, ⟨0, _⟩ => ⟨S512, .i32⟩
  | .local .scVector .vmem, ⟨1, _⟩ => ⟨S512x128, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c512_i32 : BitVec 32 := 512#32
  let v6 : BitVec 32 := Scalar.muli v5 c512_i32
  let v7 : BitVec 32 := Scalar.addi v2 v6
  ![v7.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c512_i32 : BitVec 32 := 512#32
  let v6 : BitVec 32 := Scalar.muli v5 c512_i32
  let v7 : BitVec 32 := Scalar.addi v2 v6
  let c0_i32_7_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S8192x128 : Shape := ⟨2, ![8192, 128]⟩
abbrev S131072 : Shape := ⟨1, ![131072]⟩
abbrev S_ : Shape := ⟨0, ![]⟩
abbrev S131072x1 : Shape := ⟨2, ![131072, 1]⟩
abbrev S131072x128 : Shape := ⟨2, ![131072, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S131072, .i32⟩
  | .hbm, ⟨2, _⟩ => ⟨S_, .i32⟩
  | .hbm, ⟨3, _⟩ => ⟨S131072, .i32⟩
  | .hbm, ⟨4, _⟩ => ⟨S131072, .i1⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S131072, .i32⟩
  | .hbm, ⟨9, _⟩ => ⟨S131072x1, .i32⟩
  | .hbm, ⟨10, _⟩ => ⟨S131072x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.GatherTile.lean ====
/-
  The row gather on the vector subcores, one subcore's task: program `GatherIdeal`, at any float values and operations.

  Subcore `s` of SparseCore `c` owns rows `4096 * (2 * s + c) ‥ + 4096` of the result. In eight trips it fetches 512
  words of the index array into its list, gathers the 512 table rows the list names into its row buffer and writes the
  buffer out. The table and the index array are read by all subcores at once, so each holds a share of them; the
  result's rows it holds outright. What the task leaves in its rows is stated: row `r` is row `idx[r]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.ValueIdxCore
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.GatherIdeal.main_arg0_scv : Memref Cert.GatherIdeal.sig Kind.scVector Space.hbm Cert.GatherIdeal.S8192x128 EltTy.f32)
local notation "iV" => (Memref.whole Cert.GatherIdeal.main_arg1_scv : Memref Cert.GatherIdeal.sig Kind.scVector Space.hbm Cert.GatherIdeal.S131072 EltTy.i32)
local notation "oV" => (Memref.whole Cert.GatherIdeal.main_v0_scv : Memref Cert.GatherIdeal.sig Kind.scVector Space.hbm Cert.GatherIdeal.S131072x128 EltTy.f32)
local notation "lV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

/-! ## What the call computes -/

/-- Row `r` of the result is row `idx[r]` of the table (an index past the table, which the claim excludes, wraps). -/
def gathered (tab : S8192x128.Idx → Elt F .f32) (idx : S131072.Idx → Elt F .i32) : S131072x128.Idx → Elt F .f32 :=
  fun x => tab (ix2 (⟨(idx (ix1 (x 0)) : BitVec 32).toNat % 8192, Nat.mod_lt _ (by decide)⟩ : Fin 8192) (x 1))

/-- The rows subcore `s` of SparseCore `c` owns. -/
def tileSet (c s : ℕ) : Finset S131072x128.Idx := Finset.univ.filter fun x => (x 0).val / 4096 = 2 * s + c
/-- The rows SparseCore `c` owns. -/
def coreSet (c : ℕ) : Finset S131072x128.Idx := Finset.univ.filter fun x => (x 0).val / 4096 % 2 = c

/-- The share of the table and of the index array SparseCore `c` is handed; subcore `s`'s part of it. -/
abbrev coreShare (c : Fin 2) : PosShare TreeShare := pieceOf fullShare 2 (by decide) c
abbrev tileShare (c : Fin 2) (s : Fin 16) : PosShare TreeShare := pieceOf (coreShare c) 16 (by decide) s

section Tile

variable (tab : (d : Dev nD) → Buf (Elt F) (tLoc d)) (idx : (d : Dev nD) → Buf (Elt F) (iLoc d))

/-- Every word of the index array names a row of the table. -/
def IdxOK : Prop := ∀ (d : Dev nD) (j : S131072.Idx), (idx d j : BitVec 32).toNat < 8192

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := L 0
abbrev sL (L : grid0.Coords) : Fin 16 := L 1
abbrev thr (d : Dev nD) (L : grid0.Coords) : Thread nD τ := V d (cV L) (jV L)

/-- The words of the index array trip `t` fetches, the rows it writes, and all of the table, as the task addresses them. -/
abbrev iK (L : grid0.Coords) (t : Fin k0_t1_loop.trips) : Memref sig .scVector .hbm S512 .i32 :=
  (iV).slice (Rect.unit (s := S131072) (k0_off1 L t) S512.size (k0_off1_inb L t)) (fun _ => rfl)
abbrev oK (L : grid0.Coords) (t : Fin k0_t1_loop.trips) : Memref sig .scVector .hbm S512x128 .f32 :=
  (oV).slice (Rect.unit (s := S131072x128) (k0_off2 L t) S512x128.size (k0_off2_inb L t)) (fun _ => rfl)
abbrev tK : Memref sig .scVector .hbm S8192x128 .f32 :=
  (tV).slice (Rect.unit (s := S8192x128) ![0, 0] S8192x128.size inb_S8192x128_S8192x128_0_0) (fun _ => rfl)

/-- Row `r` of trip `t`'s block, as a row of the whole result. -/
def rowAt (L : grid0.Coords) (t : Fin k0_t1_loop.trips) (r : Fin 512) : Fin 131072 :=
  ⟨8192 * (L 1).val + 4096 * (L 0).val + 512 * t.val + r.val, by
    have h0 : (L 0).val < 2 := (L 0).isLt
    have h1 : (L 1).val < 16 := (L 1).isLt
    have h2 : t.val < 8 := Nat.lt_of_lt_of_le t.isLt k0_t1_abs.2.1
    omega⟩

theorem emb_iK (t : Fin k0_t1_loop.trips) (j : S512.Idx) : (iK L t).view.emb j = ix1 (rowAt L t (j 0)) := by
  funext a
  match a with
  | ⟨0, _⟩ =>
    apply Fin.ext
    show ((Rect.unit (s := S131072) (k0_off1 L t) S512.size (k0_off1_inb L t)).emb j 0).val = _
    rw [Rect.emb_apply]
    simp only [Rect.unit, k0_off1_eq]
    show 8192 * (L 1).val + 4096 * (L 0).val + 512 * t.val + 1 * (j 0).val = 8192 * (L 1).val + 4096 * (L 0).val + 512 * t.val + (j 0).val
    omega

theorem emb_oK (t : Fin k0_t1_loop.trips) (j : S512x128.Idx) : (oK L t).view.emb j = ix2 (rowAt L t (j 0)) (j 1) := by
  funext a
  match a with
  | ⟨0, _⟩ =>
    apply Fin.ext
    show ((Rect.unit (s := S131072x128) (k0_off2 L t) S512x128.size (k0_off2_inb L t)).emb j 0).val = _
    rw [Rect.emb_apply]
    simp only [Rect.unit, k0_off2_eq]
    show 8192 * (L 1).val + 4096 * (L 0).val + 512 * t.val + 1 * (j 0).val = 8192 * (L 1).val + 4096 * (L 0).val + 512 * t.val + (j 0).val
    omega
  | ⟨1, _⟩ =>
    apply Fin.ext
    show ((Rect.unit (s := S131072x128) (k0_off2 L t) S512x128.size (k0_off2_inb L t)).emb j 1).val = _
    rw [Rect.emb_apply]
    simp only [Rect.unit, k0_off2_eq]
    show 0 + 1 * (j 1).val = (j 1).val
    omega

theorem emb_tK (j : S8192x128.Idx) : (tK).view.emb j = j := by
  funext a
  apply Fin.ext
  show ((Rect.unit (s := S8192x128) ![0, 0] S8192x128.size inb_S8192x128_S8192x128_0_0).emb j a).val = _
  rw [Rect.emb_apply]
  match a with
  | ⟨0, _⟩ => show 0 + 1 * (j 0).val = (j 0).val; omega
  | ⟨1, _⟩ => show 0 + 1 * (j 1).val = (j 1).val; omega

theorem read_iK (t : Fin k0_t1_loop.trips) (f : Buf (Elt F) (iLoc d)) (j : S512.Idx) :
    (iK L t).view.read (Elt F) f j = f (ix1 (rowAt L t (j 0))) :=
  ((View.read_apply _ _).trans (cast_eq _ _)).trans (congrArg f (emb_iK L t j))

theorem read_tK (f : Buf (Elt F) (tLoc d)) (j : S8192x128.Idx) : (tK).view.read (Elt F) f j = f j :=
  ((View.read_apply _ _).trans (cast_eq _ _)).trans (congrArg f (emb_tK j))

/-- The list trip `t` fetched, read back: the words of the index array for the block's rows. -/
theorem read_list (t : Fin k0_t1_loop.trips) (fs : Buf (Elt F) ((thr d L).loc cc0_scratch0)) (j : S512.Idx) :
    (lV).view.read (Elt F) (View.write (Elt F) (lV).view fs ((iK L t).view.read (Elt F) (idx d)) Finset.univ) j = idx d (ix1 (rowAt L t (j 0))) := by
  rw [View.write_whole_univ]
  simp only [Memref.view_whole, View.read_whole]
  exact read_iK d L t (idx d) j

/-- The row buffer written whole, read back. -/
theorem read_buf (fr : Buf (Elt F) ((thr d L).loc cc0_scratch1)) (w : S512x128.Idx → Elt F .f32) (j : S512x128.Idx) :
    (rV).view.read (Elt F) (View.write (Elt F) (rV).view fr w Finset.univ) j = w j := by
  rw [View.write_whole_univ]
  simp only [Memref.view_whole, View.read_whole]

theorem set_oK_subset (t : Fin k0_t1_loop.trips) : (oK L t).view.set ⊆ tileSet (L 0).val (L 1).val := by
  intro x hx
  obtain ⟨j, -, rfl⟩ := Finset.mem_map.mp hx
  simp only [tileSet, Finset.mem_filter, Finset.mem_univ, true_and]
  rw [emb_oK]
  show (8192 * (L 1).val + 4096 * (L 0).val + 512 * t.val + (j 0).val) / 4096 = _
  have h2 : t.val < 8 := Nat.lt_of_lt_of_le t.isLt k0_t1_abs.2.1
  have h3 : (j 0).val < 512 := (j 0).isLt
  omega

/-- The first `t` blocks of the subcore's rows hold the gathered rows. -/
def DoneTo (t : ℕ) (f : Buf (Elt F) (oLoc d)) : Prop :=
  ∀ x ∈ tileSet (L 0).val (L 1).val, (x 0).val < 8192 * (L 1).val + 4096 * (L 0).val + 512 * t → f x = gathered (tab d) (idx d) x

theorem rows_mk (hok : IdxOK idx) (t : Fin k0_t1_loop.trips) (fs : Buf (Elt F) ((thr d L).loc cc0_scratch0)) (x : S512.Idx) :
    ((lV).view.read (Elt F) (View.write (Elt F) (lV).view fs ((iK L t).view.read (Elt F) (idx d)) Finset.univ) x : BitVec 32).toNat
      < S8192x128.size gathers_S8192x128_S512x128.axis := by
  rw [read_list]; exact hok d _

/-- One trip's effect on the result: the write of the gathered block extends the rows done. -/
theorem done_step (hok : IdxOK idx) (t : Fin k0_t1_loop.trips) (f : Buf (Elt F) (oLoc d)) (hf : DoneTo tab idx d L t.val f)
    (fs : Buf (Elt F) ((thr d L).loc cc0_scratch0)) (fr : Buf (Elt F) ((thr d L).loc cc0_scratch1)) :
    DoneTo tab idx d L (t.val + 1)
      ((oK L t).view.write (Elt F) f ((rV).view.read (Elt F) ((rV).view.write (Elt F) fr
        (SparseCore.gatherPayload gathers_S8192x128_S512x128 ((tK).view.read (Elt F) (tab d))
          (SparseCore.rows ((lV).view.read (Elt F) (View.write (Elt F) (lV).view fs ((iK L t).view.read (Elt F) (idx d)) Finset.univ)) rfl
            (rows_mk idx d L hok t fs))) Finset.univ)) Finset.univ) := by
  intro x hx hlt
  by_cases hin : x ∈ (oK L t).view.set
  · obtain ⟨j, -, rfl⟩ := Finset.mem_map.mp hin
    rw [View.write_emb_of_mem _ _ (Finset.mem_univ _)]
    refine (cast_eq _ _).trans ((read_buf d L fr _ j).trans ?_)
    unfold SparseCore.gatherPayload gathered
    rw [read_tK d (tab d), emb_oK]
    refine congrArg (tab d) ?_
    funext a
    match a with
    | ⟨0, _⟩ =>
      refine (Shape.Gathers.idx_axis gathers_S8192x128_S512x128 _ j).trans ?_
      apply Fin.ext
      show ((lV).view.read (Elt F) (View.write (Elt F) (lV).view fs ((iK L t).view.read (Elt F) (idx d)) Finset.univ) _ : BitVec 32).toNat = (idx d (ix1 (rowAt L t (j 0))) : BitVec 32).toNat % 8192
      rw [read_list, Nat.mod_eq_of_lt (hok d _)]
      congr 4
      apply Fin.ext
      have := Shape.rowMajor_val_one (S512.rowMajor.symm ((j gathers_S8192x128_S512x128.axis').cast rfl))
      rw [Equiv.apply_symm_apply] at this
      exact this.symm
    | ⟨1, _⟩ =>
      apply Fin.ext
      exact Shape.Gathers.idx_of_ne gathers_S8192x128_S512x128 _ j 1 (by decide)
  · rw [View.write_of_not_mem _ _ _ (by rw [View.setOn_univ]; exact hin)]
    refine hf x hx ?_
    by_contra hge
    refine hin ?_
    have h0 : (x 0).val - (8192 * (L 1).val + 4096 * (L 0).val + 512 * t.val) < 512 := by omega
    refine Finset.mem_map.mpr ⟨ix2 (⟨_, h0⟩ : Fin 512) (x 1), Finset.mem_univ _, ?_⟩
    refine (emb_oK L t _).trans ?_
    funext a
    match a with
    | ⟨0, _⟩ =>
      apply Fin.ext
      show 8192 * (L 1).val + 4096 * (L 0).val + 512 * t.val + ((x 0).val - (8192 * (L 1).val + 4096 * (L 0).val + 512 * t.val)) = (x 0).val
      omega
    | ⟨1, _⟩ => rfl

theorem done_zero (f : Buf (Elt F) (oLoc d)) : DoneTo tab idx d L 0 f := by
  intro x hx hlt
  simp only [tileSet, Finset.mem_filter, Finset.mem_univ, true_and] at hx
  omega

theorem done_all (f : Buf (Elt F) (oLoc d)) (hf : DoneTo tab idx d L 8 f) : ∀ x ∈ tileSet (L 0).val (L 1).val, f x = gathered (tab d) (idx d) x := by
  intro x hx
  refine hf x hx ?_
  simp only [tileSet, Finset.mem_filter, Finset.mem_univ, true_and] at hx
  omega

end Tile

end Cert.Proof.Gather

end
-- ==== Proof.GatherBody.lean ====
/-
  The row gather on the vector subcores, the body run: from its shares of the table and of the index array and its rows
  of the result, a subcore's task ends with the gathered rows in its rows, its shares back and its semaphores at zero.
-/
module

public import proofs.«01_k».proof.Proof.GatherTile

@[expose] public section

set_option maxRecDepth 16384

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.GatherIdeal.main_arg0_scv : Memref Cert.GatherIdeal.sig Kind.scVector Space.hbm Cert.GatherIdeal.S8192x128 EltTy.f32)
local notation "iV" => (Memref.whole Cert.GatherIdeal.main_arg1_scv : Memref Cert.GatherIdeal.sig Kind.scVector Space.hbm Cert.GatherIdeal.S131072 EltTy.i32)
local notation "oV" => (Memref.whole Cert.GatherIdeal.main_v0_scv : Memref Cert.GatherIdeal.sig Kind.scVector Space.hbm Cert.GatherIdeal.S131072x128 EltTy.f32)
local notation "lV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (tab : (d : Dev nD) → Buf (Elt F) (tLoc d)) (idx : (d : Dev nD) → Buf (Elt F) (iLoc d)) (out : (d : Dev nD) → Buf (Elt F) (oLoc d))

/-! ## What the handshakes carry -/

/-- A SparseCore is handed its share of the table and of the index array and its rows of the result; a task its. Both
    hand back the shares, and the rows holding the gathered rows. -/
def P : (K (F := F)).Pay (nD := nD) (Val := Elt F) (Name := ℕ) (U := UU) where
  st := fun q d c => match q with
    | 0 => iprop((tLoc d ↦{coreShare c} tab d) ∗ (iLoc d ↦{coreShare c} idx d) ∗ oLoc d ↦[coreSet c.val]{fullShare} out d)
  dn := fun q d c => match q with
    | 0 => iprop((tLoc d ↦{coreShare c} tab d) ∗ (iLoc d ↦{coreShare c} idx d) ∗ oLoc d ↦[coreSet c.val]{fullShare} gathered (tab d) (idx d))
  go := fun q d c i => match q with
    | 0 => iprop((tLoc d ↦{tileShare c i} tab d) ∗ (iLoc d ↦{tileShare c i} idx d) ∗ oLoc d ↦[tileSet c.val i.val]{fullShare} out d)
  td := fun q d c i => match q with
    | 0 => iprop((tLoc d ↦{tileShare c i} tab d) ∗ (iLoc d ↦{tileShare c i} idx d) ∗ oLoc d ↦[tileSet c.val i.val]{fullShare} gathered (tab d) (idx d))
  x := fun _ _ => iprop(emp)

instance P_storable : (P (F := F) tab idx out).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

section Tile

variable (d : Dev nD) (L : grid0.Coords)

abbrev cAcell (d : Dev nD) (L : grid0.Coords) : GSem nD τ sig := (thr d L, .dma cc0_scratch2.sem)
abbrev cBcell (d : Dev nD) (L : grid0.Coords) : GSem nD τ sig := (thr d L, .dma cc0_scoped0.sem)
abbrev cCcell (d : Dev nD) (L : grid0.Coords) : GSem nD τ sig := (thr d L, .dma cc0_scoped1.sem)

omit [FloatOps F] in
theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped1.sem : SemLoc sig).isScoped .scVector = true; decide⟩⟩⟩)]

omit [FloatOps F] in
/-- The list and the row buffer are among the subcore's own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The loop's invariant: the shares, the subcore's rows with the first `t` blocks done, the list and the row buffer at
    anything, the three semaphores at zero. -/
def inv (O : CellTallies nD τ sig (HIx 1)) (W : Waits sig (HIx 1)) (t : ℕ) (_ : PUnit) : sProp 𝕄 :=
  iprop(Transfers.MayWaits (thr d L) (default : HIx 1) O
    ∗ ((tK).view.loc (thr d L) ↦{tileShare (cL L) (sL L)} tab d)
    ∗ ((iV).view.loc (thr d L) ↦{tileShare (cL L) (sL L)} idx d)
    ∗ (∃ f, ⌜DoneTo tab idx d L t f⌝ ∗ (oV).view.loc (thr d L) ↦[tileSet (L 0).val (L 1).val]{fullShare} f)
    ∗ (∃ f, (lV).view.loc (thr d L) ↦{fullShare} f)
    ∗ (∃ f, (rV).view.loc (thr d L) ↦{fullShare} f)
    ∗ semVal (cAcell d L) 0 ∗ semVal (cBcell d L) 0 ∗ semVal (cCcell d L) 0
    ∗ ∃ W', ⌜∀ p ∈ W', p ∈ W ∨ p.2 = none⌝ ∗ owes (thr d L) O W')

omit [FloatOps F] in
theorem waits_insert {W W' : Waits sig (HIx 1)} {g : SemLoc sig} (h : ∀ p ∈ W', p ∈ W ∨ p.2 = none) :
    ∀ p ∈ insert (g, (default : HIx 1)) W', p ∈ W ∨ p.2 = none := by
  intro p hp
  rcases Finset.mem_insert.mp hp with hp | hp
  · exact .inr (hp ▸ rfl)
  · exact h p hp

set_option maxHeartbeats 4000000 in
/-- One trip. -/
theorem trip (hok : IdxOK idx) (O : CellTallies nD τ sig (HIx 1)) (W : Waits sig (HIx 1)) (t : Fin k0_t1_loop.trips) :
    inv tab idx d L O W t.val ⟨⟩
      ⊢ wp frame (wpE (defs₀ (F := F)) 𝒱₀ (thr d L) none) Set.univ
          (k0_t1_body L tV (Memref.isWhole_whole _) iV (Memref.isWhole_whole _) oV (Memref.isWhole_whole _)
            lV (Memref.isWhole_whole _) rV (Memref.isWhole_whole _) cc0_scratch2 cc0_scoped0 cc0_scoped1 t ⟨⟩)
          fun _ => inv tab idx d L O W (t.val + 1) ⟨⟩ := by
  unfold inv k0_t1_body
  iintro ⟨#Hmw, Ht, Hi, ⟨%f, %hf, Ho⟩, ⟨%fs, Hl⟩, ⟨%fr, Hr⟩, HsA, HsB, HsC, %W', %hW', HO⟩
  -- the index fetch and its wait
  iapply (Transfers.wp_dmaFromWhole countersEmb 𝒱₀ (thr d L) none (src := iK L t) (default : HIx 1) (lV).view.dmaCredit rfl (by decide) (Finset.subset_univ _)) $$ [Hi Hl HsB]
  · isplitl [Hi]; · iexact Hi
    isplitl [Hl]; · iexact Hl
    iexact HsB
  iintro Hfl
  iapply (Transfers.wp_waitLocalO countersEmb 𝒱₀ (thr d L) none (default : HIx 1) (rfl : (lV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hl, Hi⟩, HsB, HO⟩
  -- the indirect gather over the fetched list and its wait
  have hN : ∀ h : S8192x128.Gathers 0 S512x128, ∑ j, ((rV).slice (S512x128.rowRect h.axis' j) (S512x128.stride_rowRect h.axis' j)).view.dmaCredit
      = (rV).view.dmaCredit := by decide +kernel
  iapply (SparseCore.wp_gatherFromWhole countersEmb 𝒱₀ (thr d L) none (hg := gathers_S8192x128_S512x128) (hsp := Or.inl rfl) (hr := by decide) (default : HIx 1)
      (rV).view.dmaCredit (hN _) (by decide) (rows_mk idx d L hok t fs)) $$ [Ht Hr Hl HsA]
  · isplitl [Ht]; · iexact Ht
    isplitl [Hr]; · iexact Hr
    isplitl [Hl]; · iexact Hl
    iexact HsA
  iintro Hfl
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hl⟩, HsA, HO⟩
  -- the block written out and its wait
  iapply (Transfers.wp_dmaFromWhole countersEmb 𝒱₀ (thr d L) none (src := rV) (dst := oK L t) (default : HIx 1) (oK L t).view.dmaCredit rfl
      (show 0 < (oK L t).view.amount (.dma cc0_scoped1.sem) from View.amount_pos _ _ (by decide)) (set_oK_subset L t)) $$ [Hr Ho HsC]
  · isplitl [Hr]; · iexact Hr
    isplitl [Ho]; · iexact Ho
    iexact HsC
  iintro Hfl
  iapply (Transfers.wp_waitLocalO countersEmb 𝒱₀ (thr d L) none (default : HIx 1) (rfl : (oK L t).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Hr⟩, HsC, HO⟩
  dsimp only [Prog.bind]
  sl_step
  isplitr; · iexact Hmw
  isplitl [Ht]; · iexact Ht
  isplitl [Hi]; · iexact Hi
  isplitl [Ho]
  · iexists _; isplitr
    swap; · iexact Ho
    ipureintro; exact done_step tab idx d L hok t f hf fs fr
  isplitl [Hl]; · iexists _; iexact Hl
  isplitl [Hr]; · iexists _; iexact Hr
  isplitl [HsA]; · iexact HsA
  isplitl [HsB]; · iexact HsB
  isplitl [HsC]; · iexact HsC
  iexists _; isplitr
  swap; · iexact HO
  ipureintro
  exact waits_insert (waits_insert (waits_insert hW'))

/-- The task on vector subcore `(L 0, L 1)` of device `d`. -/
theorem tile_body (hF : (K (F := F)).Facts) (hok : IdxOK idx) (O : CellTallies nD τ sig (HIx 1)) (W : Waits sig (HIx 1)) (hO : ∀ g, O g none = 0) :
    (iprop(levAts (K (F := F)).L (K (F := F)).lev ∗ emp
        ∗ ((tLoc d ↦{tileShare (cL L) (sL L)} tab d) ∗ (iLoc d ↦{tileShare (cL L) (sL L)} idx d) ∗ oLoc d ↦[tileSet (L 0).val (L 1).val]{fullShare} out d)
        ∗ scopedBufs (thr d L) ∗ scopedSems0 (thr d L) ∗ owes (thr d L) O W) : sProp 𝕄)
      ⊢ wp frame (wpE (defs₀ (F := F)) 𝒱₀ (thr d L) none) Set.univ
          (cc0_k L tV (Memref.isWhole_whole _) iV (Memref.isWhole_whole _) oV (Memref.isWhole_whole _)
            lV (Memref.isWhole_whole _) rV (Memref.isWhole_whole _) cc0_scratch2 cc0_scoped0 cc0_scoped1)
          fun _ => iprop(((tLoc d ↦{tileShare (cL L) (sL L)} tab d) ∗ (iLoc d ↦{tileShare (cL L) (sL L)} idx d)
              ∗ oLoc d ↦[tileSet (L 0).val (L 1).val]{fullShare} gathered (tab d) (idx d))
            ∗ scopedBufs (thr d L) ∗ scopedSems0 (thr d L)
            ∗ ∃ W', ⌜∀ p ∈ W', p ∈ W ∨ p.2 = none⌝ ∗ owes (thr d L) O W') := by
  rw [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hl⟩, ⟨%fr, Hr⟩, Hbufs⟩, ⟨HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv tab idx d L O W) $$ [Hmw Ht Hi Ho Hl Hr HsA HsB HsC HO]
  case region => exact fun t _ => trip tab idx d L hok O W t
  · unfold inv
    isplitl [Hmw]; · iexact Hmw
    isplitl [Ht]; · iexact Ht
    isplitl [Hi]; · iexact Hi
    isplitl [Ho]
    · iexists _; isplitr
      swap; · iexact Ho
      ipureintro; exact done_zero tab idx d L _
    isplitl [Hl]; · iexists _; iexact Hl
    isplitl [Hr]; · iexists _; iexact Hr
    isplitl [HsA]; · iexact HsA
    isplitl [HsB]; · iexact HsB
    isplitl [HsC]; · iexact HsC
    iexists W; isplitr
    · ipureintro; exact fun p hp => .inl hp
    · iexact HO
  iintro %_ HI
  unfold inv
  icases HI with ⟨-, Ht, Hi, ⟨%f, %hf, Ho⟩, Hl, Hr, HsA, HsB, HsC, HW⟩
  have hall := done_all tab idx d L f (by rw [show (8 : ℕ) = k0_t1_loop.trips from by decide]; exact hf)
  ihave Ho' := (Entails.of_eq (show ((oV).view.loc (thr d L) ↦[tileSet (L 0).val (L 1).val]{fullShare} f : sProp 𝕄)
      = oLoc d ↦[tileSet (L 0).val (L 1).val]{fullShare} gathered (tab d) (idx d) from pointsTo_congr hall)) $$ Ho
  sl_step
  isplitl [Ht Hi Ho']
  · isplitl [Ht]; · iexact Ht
    isplitl [Hi]; · iexact Hi
    iexact Ho'
  isplitl [Hl Hr Hbufs]
  · isplitl [Hl]; · iexact Hl
    isplitl [Hr]; · iexact Hr
    iexact Hbufs
  isplitl [HsA HsB HsC Hsems]
  · isplitl [HsA]; · iexact HsA
    isplitl [HsB]; · iexact HsB
    isplitl [HsC]; · iexact HsC
    iexact Hsems
  iexact HW

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          lV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hok : IdxOK idx) : (K (F := F)).TileObl (D (F := F)) 𝒱 (P tab idx out) v₀ 0 := by
  intro d c i O W hO _ _
  simp only [show (P tab idx out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx out d (coordsV ⟨_, hci.1⟩ ⟨_, hci.2⟩) hF hok O W hO).trans (wp_mono frame _ _ fun _ => obl_post)

end Tile

end Cert.Proof.Gather

end
-- ==== Proof.GatherRun.lean ====
/-
  The row gather's launch: what the call is handed split between the SparseCores and their subcores and joined again,
  @main on the TensorCore, and the program's run — every weakly fair execution terminates, the arguments unchanged, the
  result holding the gathered rows, every semaphore at zero — from index words that name rows of the table.
-/
module

public import proofs.«01_k».proof.Proof.GatherBody

@[expose] public section

set_option maxRecDepth 16384

noncomputable section

namespace Cert.Proof.Gather

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tab : (d : Dev nD) → Buf (Elt F) (tLoc d)) (idx : (d : Dev nD) → Buf (Elt F) (iLoc d)) (out : (d : Dev nD) → Buf (Elt F) (oLoc d))

/-! ## The rows of the result, split -/

theorem tiles_disjoint (c : Fin 2) : ∀ i ∈ (Finset.univ : Finset (Fin 16)), ∀ j ∈ (Finset.univ : Finset (Fin 16)), i ≠ j →
    Disjoint (tileSet c.val i.val) (tileSet c.val j.val) := by
  intro i _ j _ h
  refine Finset.disjoint_left.mpr fun x hx hy => h (Fin.ext ?_)
  simp only [tileSet, Finset.mem_filter, Finset.mem_univ, true_and] at hx hy
  omega

theorem tiles_cover (c : Fin 2) : ((Finset.univ : Finset (Fin 16)).biUnion fun i => tileSet c.val i.val) = coreSet c.val := by
  ext x
  have hx : (x 0).val < 131072 := (x 0).isLt
  have hc : c.val < 2 := c.isLt
  simp only [tileSet, coreSet, Finset.mem_biUnion, Finset.mem_filter, Finset.mem_univ, true_and]
  constructor
  · rintro ⟨i, hi⟩; omega
  · intro h; exact ⟨⟨(x 0).val / 4096 / 2, by omega⟩, by show _ = 2 * ((x 0).val / 4096 / 2) + c.val; omega⟩

theorem cores_disjoint : ∀ i ∈ (Finset.univ : Finset (Fin 2)), ∀ j ∈ (Finset.univ : Finset (Fin 2)), i ≠ j →
    Disjoint (coreSet i.val) (coreSet j.val) := by
  intro i _ j _ h
  refine Finset.disjoint_left.mpr fun x hx hy => h (Fin.ext ?_)
  simp only [coreSet, Finset.mem_filter, Finset.mem_univ, true_and] at hx hy
  omega

theorem cores_cover : ((Finset.univ : Finset (Fin 2)).biUnion fun c => coreSet c.val) = Finset.univ := by
  ext x
  simp only [coreSet, Finset.mem_biUnion, Finset.mem_filter, Finset.mem_univ, true_and, iff_true]
  exact ⟨⟨(x 0).val / 4096 % 2, by omega⟩, rfl⟩

omit [FloatOps F] in
theorem out_tiles (d : Dev nD) (c : Fin 2) (f : Buf (Elt F) (oLoc d)) :
    (oLoc d ↦[coreSet c.val]{fullShare} f : sProp 𝕄) = bigSep Finset.univ fun i : Fin 16 => oLoc d ↦[tileSet c.val i.val]{fullShare} f := by
  rw [← pointsTo_biUnion Finset.univ (ℓ := oLoc d) (fun i : Fin 16 => tileSet c.val i.val) (tiles_disjoint c), tiles_cover]

omit [FloatOps F] in
theorem out_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) cores_disjoint, cores_cover]

/-- A core's holdings are its tasks', whatever the result's rows hold. -/
theorem core_tiles (d : Dev nD) (c : Fin 2) (f : Buf (Elt F) (oLoc d)) :
    (iprop((tLoc d ↦{coreShare c} tab d) ∗ (iLoc d ↦{coreShare c} idx d) ∗ oLoc d ↦[coreSet c.val]{fullShare} f) : sProp 𝕄)
      = bigSep Finset.univ fun i : Fin 16 =>
          iprop((tLoc d ↦{tileShare c i} tab d) ∗ (iLoc d ↦{tileShare c i} idx d) ∗ oLoc d ↦[tileSet c.val i.val]{fullShare} f) := by
  rw [bigSep_sep', bigSep_sep', out_tiles, pointsTo_piecesOf Finset.univ (tab d) (o := 16) (by decide) (coreShare c),
    pointsTo_piecesOf Finset.univ (idx d) (o := 16) (by decide) (coreShare c)]

/-- The call's holdings are its cores'. -/
theorem call_cores (d : Dev nD) (f : Buf (Elt F) (oLoc d)) :
    (iprop((tLoc d ↦{fullShare} tab d) ∗ (iLoc d ↦{fullShare} idx d) ∗ oLoc d ↦{fullShare} f) : sProp 𝕄)
      = bigSep Finset.univ fun c : Fin 2 =>
          iprop((tLoc d ↦{coreShare c} tab d) ∗ (iLoc d ↦{coreShare c} idx d) ∗ oLoc d ↦[coreSet c.val]{fullShare} f) := by
  rw [bigSep_sep', bigSep_sep', out_cores, pointsTo_piecesOf Finset.univ (tab d) (o := 2) (by decide) fullShare,
    pointsTo_piecesOf Finset.univ (idx d) (o := 2) (by decide) fullShare]

theorem vecSplit : (K (F := F)).VecSplit' (P tab idx out) 0 := by
  intro d c
  show (iprop((tLoc d ↦{coreShare c} tab d) ∗ (iLoc d ↦{coreShare c} idx d) ∗ oLoc d ↦[coreSet c.val]{fullShare} out d) : sProp 𝕄)
    ⊢ |={Set.univ}=> iprop(
      (bigSep Finset.univ fun i : Fin 16 =>
          iprop((tLoc d ↦{tileShare c i} tab d) ∗ (iLoc d ↦{tileShare c i} idx d) ∗ oLoc d ↦[tileSet c.val i.val]{fullShare} out d))
      ∗ ((bigSep Finset.univ fun i : Fin 16 =>
          iprop((tLoc d ↦{tileShare c i} tab d) ∗ (iLoc d ↦{tileShare c i} idx d) ∗ oLoc d ↦[tileSet c.val i.val]{fullShare} gathered (tab d) (idx d)))
          -∗ iprop((tLoc d ↦{coreShare c} tab d) ∗ (iLoc d ↦{coreShare c} idx d) ∗ oLoc d ↦[coreSet c.val]{fullShare} gathered (tab d) (idx d))))
  rw [core_tiles tab idx d c (out d), core_tiles tab idx d c (gathered (tab d) (idx d))]
  iintro H; imodintro
  isplitl [H]; · iexact H
  iintro H; iexact H

/-! ## The launch element of the ghost state -/

def u₀ : UU := (initOf (K (F := F)).hsCells (K (F := F)).hsToks, 1)

omit [FloatOps F] in
theorem no_resources {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab idx out).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_resources]; iempintro
  rw [show (bigSep Finset.univ fun thr : Thread nD τ => bigSep Finset.univ fun q : Fin 1 => (P (F := F) tab idx out).x q thr) = bigSep Finset.univ fun _ => iprop(emp) from
    bigSep_congr fun _ _ => bigSep_univ_of_subsingleton (0 : Fin 1), no_resources]
  iempintro

/-! ## @main on the TensorCore -/

variable (m : (ℓ : Loc nD τ sig) → Buf (Elt F) ℓ) (ρ : Dev nD → PrngReg)

/-- The launch memory's table, index array and result. -/
abbrev mTab (d : Dev nD) : Buf (Elt F) (tLoc d) := m (tLoc d)
abbrev mIdx (d : Dev nD) : Buf (Elt F) (iLoc d) := m (iLoc d)
abbrev mOut (d : Dev nD) : Buf (Elt F) (oLoc d) := m (oLoc d)

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P tab idx out).st 0 d c)
    = (iprop((tLoc d ↦{fullShare} tab d) ∗ (iLoc d ↦{fullShare} idx d) ∗ oLoc d ↦{fullShare} out d) : sProp 𝕄) :=
  (call_cores tab idx d (out d)).symm
theorem dn0_eq (d : Dev nD) : (bigSep Finset.univ fun c : Fin ((K (F := F)).nCore 0) => (P tab idx out).dn 0 d c)
    = (iprop((tLoc d ↦{fullShare} tab d) ∗ (iLoc d ↦{fullShare} idx d) ∗ oLoc d ↦{fullShare} gathered (tab d) (idx d)) : sProp 𝕄) :=
  (call_cores tab idx d (gathered (tab d) (idx d))).symm

abbrev FIN (d : Dev nD) : sProp 𝕄 :=
  iprop((tLoc d ↦{fullShare} m (tLoc d)) ∗ (iLoc d ↦{fullShare} m (iLoc d)) ∗ oLoc d ↦{fullShare} gathered (m (tLoc d)) (m (iLoc d)))

/-- @main on device `d`'s TensorCore: the one call. -/
theorem hmain (κ : GSem nD τ sig → ℕ) (d : Dev nD) :
    iprop((K (F := F)).ctx EH (P (mTab m) (mIdx m) (mOut m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := P (mTab m) (mIdx m) (mOut m)) κ d 0) $$ [Hst Ht Hi Ho Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq (mTab m) (mIdx m) (mOut m) d)) $$ Hdn
  imodintro
  isplitl [Hst]; · iexact Hst
  isplitr [Hb Hts]; · iexact Hdn'
  isplitl [Hb] <;> iassumption

def fq (d : Dev nD) (s' : Phys nD τ sig (Elt F)) : Prop :=
  s'.mem.mem (tLoc d) = m (tLoc d) ∧ s'.mem.mem (iLoc d) = m (iLoc d) ∧ s'.mem.mem (oLoc d) = gathered (m (tLoc d)) (m (iLoc d))

theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := gathered (m (tLoc d)) (m (iLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (tLoc c) = m (tLoc c) ∧ r.2.mem (iLoc c) = m (iLoc c) ∧ r.2.mem (oLoc c) = gathered (m (tLoc c)) (m (iLoc c)))
    ∧ r.2.sem = fun _ => 0

theorem run_main [∀ e, Nonempty (Elt F e)] (hok : IdxOK (mIdx m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (mTab m) (mIdx m) (mOut m)) (A := ∅) facts v₀
    (fun q hq => match q with | 0 => nomatch hq)
    (fun q _ => match q with | 0 => tileObl (mTab m) (mIdx m) (mOut m) facts hok)
    (fun q _ => match q with | 0 => SparseCore.Cfg.VecSplit.of_plain (vecSplit (mTab m) (mIdx m) (mOut m)))
    m ρ main (fun _ => iprop(emp)) (FIN m) (u₀ (F := F)) (sep_elim_left.trans (hu₀ (mTab m) (mIdx m) (mOut m))) (hmain m ρ) (fq m) (hfin m) (QC m)
    (fun _ h hz => ⟨h, hz⟩)

end Cert.Proof.Gather

end
-- ==== Proof.GatherReference.lean ====
/-
  The row gather's claims: what the precondition says of the index words, the reference's result read entry by entry —
  the same gathered rows —, the frames and the equation.
-/
module

public import proofs.«01_k».proof.Defs
public import proofs.«01_k».proof.Proof.GatherRun
public import proofs.«01_k».proof.Proof.Gen.GatherRefIdeal
public import proofs.«01_k».proof.Proof.Gen.GatherRefIdeal.Run
public import proofs.«01_k».proof.Proof.Gen.Gather
public import proofs.«01_k».proof.Proof.Gen.Pre_idx_in_rows
public import Idealize.ShloMosaic.Lib.Routing.Ops
public import Idealize.ShloMosaic.Lib.Quiescent
public import Idealize.ShloMosaic.Lib.ValueIdxCore

@[expose] public section

noncomputable section

namespace Cert.Proof.Gather

open Idealize.ShloMosaic Idealize.ShloMosaic.ValueIdx Idealize.SL.Sem

/-! ## The precondition -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem word_in_rows (v : BitVec 32) (e : IntOp.andi (IntOp.cmpi .sge v 0#32) (IntOp.cmpi .slt v 8192#32) = 1#1) : v.toNat < 8192 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, all ones, is that every index word is a row number of the table. -/
theorem rows_of_pre {F : FTy → Type} [FloatOps F] (tab : FVec F Cert.Pre_idx_in_rows.S8192x128 .f32) (idx : IVec Cert.Pre_idx_in_rows.S131072 32)
    (h : Cert.Pre_idx_in_rows.fn (F := F) tab idx = fun _ => 1#1) (j : Cert.Pre_idx_in_rows.S131072.Idx) : (idx j).toNat < 8192 := by
  have e := congrFun h j
  simp only [Cert.Pre_idx_in_rows.fn, andi, cmpi, broadcastInDim, constantI] at e
  exact word_in_rows _ e

/-! ## The reference's result -/

open Cert.GatherRefIdeal Cert.GatherRefIdeal.Gen in
/-- `table[idx]`, as the reference computes it, is the gathered rows wherever every index word is a row number. -/
theorem reference_rows {F : FTy → Type} [FloatOps F] (tab : FVec F S8192x128 .f32) (idx : IVec S131072 32) (h : ∀ j, (idx j).toNat < 8192) :
    Host.gather gather_S8192x128_S131072x1_S131072x128_1_0_n_n_0_1_1128 tab
        (broadcastInDim S131072x1 ![0] bcast_S131072_S131072x1_0
          (select (cmpi .slt idx (broadcastInDim S131072 ![] bcast_S_S131072 (constantI S_ 32 0#32)))
            (addi idx (broadcastInDim S131072 ![] bcast_S_S131072 (constantI S_ 32 8192#32))) idx))
      = gathered (F := F) tab idx := by
  funext x
  rw [eq_ix2 x]
  generalize hc : x 0 = c
  generalize hy : x 1 = y
  have hj := h (ix1 c)
  refine (Routing.gather_row (nb := 8192) (B := 128) (n := 131072) gather_S8192x128_S131072x1_S131072x128_1_0_n_n_0_1_1128 rfl rfl rfl rfl rfl tab _ c y
    ⟨(idx (ix1 c)).toNat, hj⟩ ?_ (by decide)).trans ?_
  · have hs : IntOp.cmpi .slt (idx (ix1 c)) 0#32 = 0#1 := by
      simp only [IntOp.cmpi, BitVec.slt_eq_decide, BitVec.toInt_eq_toNat_cond, BitVec.toNat_ofNat, Nat.reducePow, Nat.zero_mod]
      rw [decide_eq_false (by omega)]; rfl
    have hb : broadcastInDim S131072x1 ![0] bcast_S131072_S131072x1_0
          (select (cmpi .slt idx (broadcastInDim S131072 ![] bcast_S_S131072 (constantI S_ 32 0#32)))
            (addi idx (broadcastInDim S131072 ![] bcast_S_S131072 (constantI S_ 32 8192#32))) idx) (ix2 c (0 : Fin 1)) = idx (ix1 c) := by
      show (select (cmpi .slt idx (broadcastInDim S131072 ![] bcast_S_S131072 (constantI S_ 32 0#32)))
            (addi idx (broadcastInDim S131072 ![] bcast_S_S131072 (constantI S_ 32 8192#32))) idx) _ = _
      have hi : ∀ j : S131072.Idx, j = ix1 c → (select (cmpi .slt idx (broadcastInDim S131072 ![] bcast_S_S131072 (constantI S_ 32 0#32)))
            (addi idx (broadcastInDim S131072 ![] bcast_S_S131072 (constantI S_ 32 8192#32))) idx) j = idx (ix1 c) := by
        rintro j rfl
        show Scalar.select (IntOp.cmpi .slt (idx (ix1 c)) 0#32) _ (idx (ix1 c)) = _
        rw [hs]
        rfl
      exact hi _ (by funext a; fin_cases a; rfl)
    rw [hb]
    exact BitVec.eq_of_toNat_eq (by rw [BitVec.toNat_ofNat]; exact (Nat.mod_eq_of_lt (by omega)).symm)
  · unfold gathered
    refine congrArg tab ?_
    refine congrArg (fun r => ix2 r y) (Fin.ext ?_)
    exact (Nat.mod_eq_of_lt hj).symm

/-! ## The claims -/

theorem frame_bits : Cert.quiescent_Gather := fun m ρ hpre =>
  (θ_run Cert.GatherIdeal.defs _ _).mono (fun _ h => ⟨fun c => ⟨(h.1 c).1, (h.1 c).2.1⟩, h.2⟩)
    (run_main (F := Bits) m ρ fun d j => rows_of_pre _ _ (hpre d) j)

theorem frame_ideal : Cert.quiescent_GatherIdeal := fun m ρ hpre =>
  (θ_run Cert.GatherIdeal.defs _ _).mono (fun _ h => ⟨fun c => ⟨(h.1 c).1, (h.1 c).2.1⟩, h.2⟩)
    (run_main (F := Ideal) m ρ fun d j => rows_of_pre _ _ (hpre d) j)

theorem frame_reference : Cert.quiescent_GatherRefIdeal := fun m ρ _ =>
  (θ_run Cert.GatherRefIdeal.defs _ _).mono
    (fun r h => ⟨fun c => ⟨(h c).2.1, (h c).2.2⟩, sem_eq_zero_of_no_sems (by decide) r.2⟩)
    (Cert.GatherRefIdeal.Value.run (F := Ideal) m ρ)

theorem equation : Cert.algebraic_GatherIdeal_GatherRefIdeal := fun m g m' g' hpre hagree =>
  ⟨fun c => gathered (F := Ideal) (m (tLoc c)) (m (iLoc c)),
    (θ_run Cert.GatherIdeal.defs _ _).mono (fun _ h c => ⟨(h.1 c).2.2, (h.1 c).1, (h.1 c).2.1⟩)
      (run_main (F := Ideal) m g fun d j => rows_of_pre _ _ (hpre d) j),
    (θ_run Cert.GatherRefIdeal.defs _ _).mono (fun _ h c => ⟨(h c).1.trans (by
        rw [(hagree c).1, (hagree c).2]
        exact reference_rows (F := Ideal) _ _ fun j => rows_of_pre _ _ (hpre c) j), (h c).2.1, (h c).2.2⟩)
      (Cert.GatherRefIdeal.Value.run (F := Ideal) m' g')⟩

end Cert.Proof.Gather

end
-- ==== Proof.Search.lean ====
/-
  The neighbour search of one block of queries, in its own words: the distances of the block, the stacks that a run
  over the rows' chunks fills, the rounds that take the rows out of the stacks, and the rounds of the slow way.
-/
module

public import proofs.«01_k».proof.Proof.Gen.KernelIdeal.Skeleton

@[expose] public section

noncomputable section

namespace Cert.Proof.Whole

open Idealize.ShloMosaic Idealize.SL.Sem Cert.KernelIdeal Cert.KernelIdeal.Gen

variable {F : FTy → Type} [FloatOps F]

/-- The plus infinity of the format, at every lane and query. -/
def top : FVec F S128x256 .f32 := broadcast S128x256 (Scalar.ofBits .f32 0x7F800000#32)

/-- What a value `x` put into the stack `s` has become when it reaches level `k`: each level keeps the lesser of its own
    entry and of what arrives, and hands the other on. -/
def carry (s : Nat → FVec F S128x256 .f32) (x : FVec F S128x256 .f32) (k : Nat) : FVec F S128x256 .f32 :=
  Nat.rec x (fun k c => select (cmpf .olt c (s k)) (s k) c) k

/-- Whether what reaches level `k` stays there. -/
def stays (s : Nat → FVec F S128x256 .f32) (x : FVec F S128x256 .f32) (k : Nat) : IVec S128x256 1 :=
  cmpf .olt (carry s x k) (s k)

/-- The chunk number that goes with what reaches level `k`. -/
def carryNo (s : Nat → FVec F S128x256 .f32) (x : FVec F S128x256 .f32) (t : Nat → IVec S128x256 32)
    (n : IVec S128x256 32) (k : Nat) : IVec S128x256 32 :=
  Nat.rec n (fun k e => select (stays s x k) (t k) e) k

/-- The stack's values with `x` put in. -/
def put (s : Nat → FVec F S128x256 .f32) (x : FVec F S128x256 .f32) (k : Nat) : FVec F S128x256 .f32 :=
  select (stays s x k) (carry s x k) (s k)

/-- The stack's chunk numbers with `x` of chunk `n` put in. -/
def putNo (s : Nat → FVec F S128x256 .f32) (x : FVec F S128x256 .f32) (t : Nat → IVec S128x256 32)
    (n : IVec S128x256 32) (k : Nat) : IVec S128x256 32 :=
  select (stays s x k) (carryNo s x t n k) (t k)

theorem slices_chunk (n : Nat) : S8192x256.Slices ![128 * (n % 64), 0] S128x256 :=
  ⟨rfl, fun a => by
    have hn : n % 64 < 64 := Nat.mod_lt _ (by decide)
    match a with
    | ⟨0, _⟩ => show 128 * (n % 64) + 128 ≤ 8192; omega
    | ⟨1, _⟩ => show 0 + 256 ≤ 256; omega⟩

/-- The rows of chunk `n` of the distances. -/
def chunk (d : FVec F S8192x256 .f32) (n : Nat) : FVec F S128x256 .f32 :=
  extractStridedSlice S128x256 ![128 * (n % 64), 0] d (slices_chunk n)

/-- The number of a chunk, at every lane and query. -/
def chunkNo (n : Nat) : IVec S128x256 32 := broadcast S128x256 (BitVec.ofNat 32 n)

/-- The stacks' values after the first `n` chunks, by level. -/
def val (d : FVec F S8192x256 .f32) (n : Nat) : Nat → FVec F S128x256 .f32 :=
  Nat.rec (fun _ => top) (fun n s => put s (chunk d n)) n

/-- The stacks' chunk numbers after the first `n` chunks, by level. -/
def no (d : FVec F S8192x256 .f32) (n : Nat) : Nat → IVec S128x256 32 :=
  Nat.rec (fun _ => chunkNo 0) (fun n t => putNo (val d n) (chunk d n) t (chunkNo n)) n

/-- The number of the lane, at every lane and query. -/
def lane : IVec S128x256 32 := iota .tc S128x256 32 [0] iota_S128x256_d0_w32

/-- The row that each lane's head stands for. -/
def rows (t : Nat → IVec S128x256 32) : IVec S128x256 32 := addi (muli (t 0) (broadcast S128x256 128#32)) lane

/-- The least head of each query. -/
def least (s : Nat → FVec F S128x256 .f32) : FVec F S1x256 .f32 :=
  shapeCast S1x256 (multiReduction .minimumf [0] S256 (s 0) 0x7F800000#32 reduces_S128x256_S256 (.inl rfl) rfl)
    shapeCasts_S256_S1x256

/-- The rows of the lanes whose head is the least, and 8192 elsewhere. -/
def cand (s : Nat → FVec F S128x256 .f32) (t : Nat → IVec S128x256 32) : IVec S128x256 32 :=
  select (cmpf .ole (s 0) (broadcastTo S128x256 (least s) broadcasts_S1x256_S128x256)) (rows t)
    (broadcast S128x256 8192#32)

/-- The least of those rows. -/
def pick (s : Nat → FVec F S128x256 .f32) (t : Nat → IVec S128x256 32) : IVec S1x256 32 :=
  shapeCast S1x256 (multiReductionI .minsi [0] S256 (cand s t) 2147483647#32 reduces_S128x256_S256 rfl)
    shapeCasts_S256_S1x256

/-- That row, at every lane. -/
def picks (s : Nat → FVec F S128x256 .f32) (t : Nat → IVec S128x256 32) : IVec S128x256 32 :=
  broadcastTo S128x256 (pick s t) broadcasts_S1x256_S128x256

/-- The lane whose head is that row. -/
def hit (s : Nat → FVec F S128x256 .f32) (t : Nat → IVec S128x256 32) : IVec S128x256 1 :=
  cmpi .eq (rows t) (picks s t)

/-- The values with that row taken out of its lane. -/
def popVal (s : Nat → FVec F S128x256 .f32) (t : Nat → IVec S128x256 32) : Nat → FVec F S128x256 .f32
  | 0 => select (hit s t) (s 1) (s 0)
  | 1 => select (hit s t) (s 2) (s 1)
  | 2 => select (hit s t) (s 3) (s 2)
  | 3 => select (hit s t) (s 4) (s 3)
  | _ => select (hit s t) top (s 4)

/-- The chunk numbers with that row taken out of its lane. -/
def popNo (s : Nat → FVec F S128x256 .f32) (t : Nat → IVec S128x256 32) : Nat → IVec S128x256 32
  | 0 => select (hit s t) (t 1) (t 0)
  | 1 => select (hit s t) (t 2) (t 1)
  | 2 => select (hit s t) (t 3) (t 2)
  | 3 => select (hit s t) (t 4) (t 3)
  | _ => t 4

/-- The stacks `s`, `t` after `r` rounds. -/
def left (s : Nat → FVec F S128x256 .f32) (t : Nat → IVec S128x256 32) (r : Nat) :
    (Nat → FVec F S128x256 .f32) × (Nat → IVec S128x256 32) :=
  Nat.rec (s, t) (fun _ p => Prod.rec (fun s t => (popVal s t, popNo s t)) p) r

/-- Their values. -/
def leftVal (s : Nat → FVec F S128x256 .f32) (t : Nat → IVec S128x256 32) (r : Nat) : Nat → FVec F S128x256 .f32 :=
  Prod.rec (fun a _ => a) (left s t r)

/-- Their chunk numbers. -/
def leftNo (s : Nat → FVec F S128x256 .f32) (t : Nat → IVec S128x256 32) (r : Nat) : Nat → IVec S128x256 32 :=
  Prod.rec (fun _ b => b) (left s t r)

/-- The lane taken from in round `r`. -/
def hits (s : Nat → FVec F S128x256 .f32) (t : Nat → IVec S128x256 32) (r : Nat) : IVec S128x256 1 :=
  hit (leftVal s t r) (leftNo s t r)

/-- How many entries were taken from each lane in the first `r` rounds. -/
def count (s : Nat → FVec F S128x256 .f32) (t : Nat → IVec S128x256 32) (r : Nat) : IVec S128x256 32 :=
  Nat.rec (broadcast S128x256 0#32) (fun r c => addi c (extui 32 (hits s t r) natLt_1_32)) r

/-- The row picked in round `r`. -/
def fastRow (s : Nat → FVec F S128x256 .f32) (t : Nat → IVec S128x256 32) (r : Nat) : IVec S1x256 32 :=
  pick (leftVal s t r) (leftNo s t r)

/-- Sixteen rows of one index each, one over the other. -/
def sixteen (r : Nat → IVec S1x256 32) : IVec S16x256 32 :=
  concatenate S16x256 0 [⟨S1x256, r 0⟩, ⟨S1x256, r 1⟩, ⟨S1x256, r 2⟩, ⟨S1x256, r 3⟩, ⟨S1x256, r 4⟩, ⟨S1x256, r 5⟩,
    ⟨S1x256, r 6⟩, ⟨S1x256, r 7⟩, ⟨S1x256, r 8⟩, ⟨S1x256, r 9⟩, ⟨S1x256, r 10⟩, ⟨S1x256, r 11⟩, ⟨S1x256, r 12⟩,
    ⟨S1x256, r 13⟩, ⟨S1x256, r 14⟩, ⟨S1x256, r 15⟩]
    concatenates_S1x256_S1x256_S1x256_S1x256_S1x256_S1x256_S1x256_S1x256_S1x256_S1x256_S1x256_S1x256_S1x256_S1x256_S1x256_S1x256_S16x256_d0

/-- Whether some lane of some query was taken from five times or more. -/
def deep (c : IVec S128x256 32) : BitVec 1 :=
  let x : FVec F S128x256 .f32 := select (cmpi .sge c (broadcast S128x256 5#32))
    (broadcast S128x256 (Scalar.ofBits .f32 0x3F800000#32)) (broadcast S128x256 (Scalar.ofBits .f32 0x00000000#32))
  let y : FVec F S1 .f32 := multiReduction .maximumf [1, 2] S1 (shapeCast S1x128x256 x shapeCasts_S128x256_S1x128x256)
    0xFF800000#32 reduces_S1x128x256_S1 (.inl rfl) rfl
  Scalar.cmpi .ne (Scalar.extui (Scalar.cmpf .ogt
    (extractAt ![0, 0, 0] (shapeCast S1x1x1 y shapeCasts_S1_S1x1x1) inpos_S1x1x1_p0_0_0)
    (Scalar.ofBits .f32 0x00000000#32)) : BitVec 32) 0#32

/-- The number of the row, at every row and query. -/
def rowNo : IVec S8192x256 32 := iota .tc S8192x256 32 [0] iota_S8192x256_d0_w32

/-- The least row among those of least distance. -/
def slowPick (d : FVec F S8192x256 .f32) : IVec S1x256 32 :=
  shapeCast S1x256 (multiReductionI .minsi [0] S256
    (select (cmpf .ole d (broadcastTo S8192x256 (shapeCast S1x256
        (multiReduction .minimumf [0] S256 d 0x7F800000#32 reduces_S8192x256_S256 (.inl rfl) rfl)
        shapeCasts_S256_S1x256) broadcasts_S1x256_S8192x256))
      rowNo (broadcast S8192x256 8192#32))
    2147483647#32 reduces_S8192x256_S256 rfl) shapeCasts_S256_S1x256

/-- The distances with that row's put to plus infinity. -/
def slowDrop (d : FVec F S8192x256 .f32) : FVec F S8192x256 .f32 :=
  select (cmpi .eq rowNo (broadcastTo S8192x256 (slowPick d) broadcasts_S1x256_S8192x256))
    (broadcast S8192x256 (Scalar.ofBits .f32 0x7F800000#32)) d

/-- The distances after `k` rounds of the slow way. -/
def slowed (d : FVec F S8192x256 .f32) (k : Nat) : FVec F S8192x256 .f32 :=
  Nat.rec d (fun _ d => slowDrop d) k

/-- The row that round `k` of the slow way picks. -/
def slowRow (d : FVec F S8192x256 .f32) (k : Nat) : IVec S1x256 32 := slowPick (slowed d k)

/-- The distances of a block of queries `y` from all the rows `x`, plus infinity between a row and itself. -/
def dist (i : grid0.Coords) (x : FVec F S8192x64 .f32) (y : FVec F S256x64 .f32) : FVec F S8192x256 .f32 :=
  let sx : FVec F S8192x1 .f32 := shapeCast S8192x1 (multiReduction .add [1] S8192 (mulf x x) 0x00000000#32
    reduces_S8192x64_S8192 (.inl rfl) rfl) shapeCasts_S8192_S8192x1
  let sy : FVec F S1x256 .f32 := shapeCast S1x256 (multiReduction .add [1] S256 (mulf y y) 0x00000000#32
    reduces_S256x64_S256 (.inl rfl) rfl) shapeCasts_S256_S1x256
  let p : FVec F S8192x256 .f32 := matmul dot_S8192x64_S256x64_S8192x256_1_1_0_0_n_n none x y
    (constant S8192x256 .f32 0x00000000#32)
  let d2 : FVec F S8192x256 .f32 := subf (addf (broadcastTo S8192x256 sx broadcasts_S8192x1_S8192x256)
    (broadcastTo S8192x256 sy broadcasts_S1x256_S8192x256))
    (mulf (broadcast S8192x256 (Scalar.ofBits .f32 0x40000000#32)) p)
  select (cmpi .eq rowNo (addi (broadcast S8192x256 (Scalar.muli (BitVec.ofNat 32 (i 0).val) 256#32))
      (iota .tc S8192x256 32 [1] iota_S8192x256_d1_w32)))
    (broadcast S8192x256 (Scalar.ofBits .f32 0x7F800000#32))
    (sqrt (maximumf d2 (broadcast S8192x256 (Scalar.ofBits .f32 0x00000000#32))))

/-- The neighbours of a block. -/
def block (d : FVec F S8192x256 .f32) : IVec S16x256 32 :=
  if deep (F := F) (count (val d 64) (no d 64) 16) = 1#1 then sixteen (slowRow d) else sixteen (fastRow (val d 64) (no d 64))

end Cert.Proof.Whole

end
-- ==== Proof.Stage.lean ====
module

public import proofs.«01_k».proof.Proof.Search

@[expose] public section

noncomputable section

namespace Cert.Proof.Whole

open Idealize.ShloMosaic Idealize.SL.Sem Cert.KernelIdeal Cert.KernelIdeal.Gen

variable {F : FTy → Type} [FloatOps F]

/-- The first stage's block, in the words of the search. -/
def stage1 (i : grid0.Coords) (arg1 : Memref sig .tc .vmem S8192x64 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S16x256 .i32) (harg6 : arg6.IsWhole) (arg7 : Memref sig .tc .vmem S256x64 .f32) (harg7 : arg7.IsWhole) (arg8 : Memref sig .tc .vmem S256x128 .f32) (harg8 : arg8.IsWhole) :
    Prog (TpuEff nD τ sig (Elt F) Λ₀ .tc) PUnit := do
  let v0 : Vec F S8192x64 .f32 ← Prog.lift (.load arg1 (Rect.unit (s := S8192x64) ![0, 0] S8192x64.size inb_S8192x64_S8192x64_0_0).toLoadRect (View.loadsAt_vmem h_S8192x64))
  let v2 : Vec F S256x64 .f32 ← Prog.lift (.load arg2 (Rect.unit (s := S256x64) ![0, 0] S256x64.size inb_S256x64_S256x64_0_0).toLoadRect (View.loadsAt_vmem h_S256x64))
  let y : FVec F S256x64 .f32 := shapeCast S256x64 v2 shapeCasts_S256x64_S256x64
  let d : FVec F S8192x256 .f32 := dist i (shapeCast S8192x64 v0 shapeCasts_S8192x64_S8192x64) y
  let _o6 : Vec F S16x256 .i32 ← Prog.lift (.load arg6 (Rect.unit (s := S16x256) ![0, 0] S16x256.size inb_S16x256_S16x256_0_0).toLoadRect (View.loadsAt_vmem h_S16x256))
  Prog.lift (.store arg6 (Rect.unit (s := S16x256) ![0, 0] S16x256.size inb_S16x256_S16x256_0_0) (sixteen (fastRow (val d 64) (no d 64))) Finset.univ (View.stores_vmem_bits_univ h_S16x256 rfl) (.inl rfl))
  if deep (F := F) (count (val d 64) (no d 64) 16) = 1#1 then do
    let _o6 : Vec F S16x256 .i32 ← Prog.lift (.load arg6 (Rect.unit (s := S16x256) ![0, 0] S16x256.size inb_S16x256_S16x256_0_0).toLoadRect (View.loadsAt_vmem h_S16x256))
    Prog.lift (.store arg6 (Rect.unit (s := S16x256) ![0, 0] S16x256.size inb_S16x256_S16x256_0_0) (sixteen (slowRow d)) Finset.univ (View.stores_vmem_bits_univ h_S16x256 rfl) (.inl rfl))
    pure ⟨⟩
  else do
    pure ⟨⟩
  let v2024 : Vec F S64x64 .f32 ← Prog.lift (.load arg3 (Rect.unit (s := S64x64) ![0, 0] S64x64.size inb_S64x64_S64x64_0_0).toLoadRect (View.loadsAt_vmem h_S64x64))
  let v2027 : Vec F S1x64 .f32 ← Prog.lift (.load arg5 (Rect.unit (s := S1x64) ![0, 0] S1x64.size inb_S1x64_S1x64_0_0).toLoadRect (View.loadsAt_vmem h_S1x64))
  let _o7 : Vec F S256x64 .f32 ← Prog.lift (.load arg7 (Rect.unit (s := S256x64) ![0, 0] S256x64.size inb_S256x64_S256x64_0_0).toLoadRect (View.loadsAt_vmem h_S256x64))
  Prog.lift (.store arg7 (Rect.unit (s := S256x64) ![0, 0] S256x64.size inb_S256x64_S256x64_0_0) (addf (matmul dot_S256x64_S64x64_S256x64_1_0_0_1_n_n none y (shapeCast S64x64 v2024 shapeCasts_S64x64_S64x64) (constant S256x64 .f32 0x00000000#32)) (broadcastTo S256x64 (shapeCast S1x64 v2027 shapeCasts_S1x64_S1x64) broadcasts_S1x64_S256x64)) Finset.univ (View.stores_vmem_bits_univ h_S256x64 rfl) (.inl rfl))
  let v2032 : Vec F S64x64 .f32 ← Prog.lift (.load arg4 (Rect.unit (s := S64x64) ![0, 0] S64x64.size inb_S64x64_S64x64_0_0).toLoadRect (View.loadsAt_vmem h_S64x64))
  let w : FVec F S256x64 .f32 := matmul dot_S256x64_S64x64_S256x64_1_0_0_1_n_n none y (shapeCast S64x64 v2032 shapeCasts_S64x64_S64x64) (constant S256x64 .f32 0x00000000#32)
  let _o8 : Vec F S256x128 .f32 ← Prog.lift (.load arg8 (Rect.unit (s := S256x128) ![0, 0] S256x128.size inb_S256x128_S256x128_0_0).toLoadRect (View.loadsAt_vmem h_S256x128))
  Prog.lift (.store arg8 (Rect.unit (s := S256x128) ![0, 0] S256x128.size inb_S256x128_S256x128_0_0) (concatenate S256x128 1 [⟨S256x64, w⟩, ⟨S256x64, broadcast S256x64 (Scalar.ofBits .f32 0x00000000#32)⟩] concatenates_S256x64_S256x64_S256x128_d1) Finset.univ (View.stores_vmem_bits_univ h_S256x128 rfl) (.inl rfl))
  pure ⟨⟩

/-- A program that only returns a value hands it on. -/
theorem step {E : Type → Type} {α β : Type} {p : Prog E α} {k : α → Prog E β} {q : Prog E β} (a : α)
    (h : p = pure a) (hq : k a = q) : (p >>= k) = q := by rw [h]; exact hq

/-- Two programs that ask first for the same thing are equal if they are so after any answer. -/
theorem ask {E : Type → Type} {α β : Type} (p : Prog E α) {k k' : α → Prog E β} (h : ∀ x, k x = k' x) :
    (p >>= k) = (p >>= k') := congrArg _ (funext h)

/-- The same where the first requests are only equal. -/
theorem ask' {E : Type → Type} {α β : Type} {p p' : Prog E α} {k k' : α → Prog E β} (hp : p = p')
    (h : ∀ x, k x = k' x) : (p >>= k) = (p' >>= k') := by rw [hp]; exact ask _ h

theorem stage1_eq (i : grid0.Coords) (arg1 : Memref sig .tc .vmem S8192x64 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S16x256 .i32) (harg6 : arg6.IsWhole) (arg7 : Memref sig .tc .vmem S256x64 .f32) (harg7 : arg7.IsWhole) (arg8 : Memref sig .tc .vmem S256x128 .f32) (harg8 : arg8.IsWhole) :
    cc0__stage1_body i arg1 harg1 arg2 harg2 arg3 harg3 arg4 harg4 arg5 harg5 arg6 harg6 arg7 harg7 arg8 harg8 = stage1 (F := F) i arg1 harg1 arg2 harg2 arg3 harg3 arg4 harg4 arg5 harg5 arg6 harg6 arg7 harg7 arg8 harg8 := by
  delta stage1
  refine (Prog.bind_assoc _ _ _).trans (ask _ fun v0 => ?_)
  refine (Prog.bind_assoc _ _ _).trans (ask _ fun v2 => ?_)
  dsimp only
  generalize hy : (shapeCast S256x64 v2 shapeCasts_S256x64_S256x64 : FVec F S256x64 .f32) = y
  generalize hd : dist i (shapeCast S8192x64 v0 shapeCasts_S8192x64_S8192x64) y = d
  refine step ⟨y, rowNo, d, val d 0 0, val d 0 1, val d 0 2, val d 0 3, val d 0 4, no d 0 0, no d 0 1, no d 0 2, no d 0 3, no d 0 4⟩ (by subst hd; subst hy; rfl) ?_; dsimp only
  refine step ⟨val d 2 1, no d 2 1, val d 2 2, no d 2 2, val d 2 3, no d 2 3, val d 2 4, no d 2 4, val d 3 0, carry (val d 2) (chunk d 2) 1, no d 3 0, carryNo (val d 2) (chunk d 2) (no d 2) (chunkNo 2) 1⟩ rfl ?_; dsimp only
  refine step ⟨no d 4 2, val d 4 3, no d 4 3, val d 4 4, no d 4 4, val d 5 0, no d 5 0, val d 5 1, no d 5 1, carryNo (val d 4) (chunk d 4) (no d 4) (chunkNo 4) 2, stays (val d 4) (chunk d 4) 2, val d 5 2, carry (val d 4) (chunk d 4) 3⟩ rfl ?_; dsimp only
  refine step ⟨val d 6 4, no d 6 4, val d 7 0, no d 7 0, val d 7 1, no d 7 1, val d 7 2, no d 7 2, val d 7 3, carry (val d 6) (chunk d 6) 4, no d 7 3, carryNo (val d 6) (chunk d 6) (no d 6) (chunkNo 6) 4, stays (val d 6) (chunk d 6) 4⟩ rfl ?_; dsimp only
  refine step ⟨no d 9 0, val d 9 1, no d 9 1, val d 9 2, no d 9 2, val d 9 3, no d 9 3, val d 9 4, no d 9 4, chunkNo 9, stays (val d 9) (chunk d 9) 0, val d 10 0, carry (val d 9) (chunk d 9) 1⟩ rfl ?_; dsimp only
  refine step ⟨val d 11 2, no d 11 2, val d 11 3, no d 11 3, val d 11 4, no d 11 4, val d 12 0, no d 12 0, val d 12 1, carry (val d 11) (chunk d 11) 2, no d 12 1, carryNo (val d 11) (chunk d 11) (no d 11) (chunkNo 11) 2, stays (val d 11) (chunk d 11) 2⟩ rfl ?_; dsimp only
  refine step ⟨no d 13 3, val d 13 4, no d 13 4, val d 14 0, no d 14 0, val d 14 1, no d 14 1, val d 14 2, no d 14 2, carryNo (val d 13) (chunk d 13) (no d 13) (chunkNo 13) 3, stays (val d 13) (chunk d 13) 3, val d 14 3, carry (val d 13) (chunk d 13) 4, no d 14 3⟩ rfl ?_; dsimp only
  refine step ⟨val d 16 0, no d 16 0, val d 16 1, no d 16 1, val d 16 2, no d 16 2, val d 16 3, no d 16 3, val d 16 4, no d 16 4, chunk d 16, chunkNo 16, stays (val d 16) (chunk d 16) 0⟩ rfl ?_; dsimp only
  refine step ⟨no d 18 1, val d 18 2, no d 18 2, val d 18 3, no d 18 3, val d 18 4, no d 18 4, val d 19 0, no d 19 0, carryNo (val d 18) (chunk d 18) (no d 18) (chunkNo 18) 1, stays (val d 18) (chunk d 18) 1, val d 19 1, carry (val d 18) (chunk d 18) 2, no d 19 1⟩ rfl ?_; dsimp only
  refine step ⟨val d 20 3, no d 20 3, val d 20 4, no d 20 4, val d 21 0, no d 21 0, val d 21 1, no d 21 1, val d 21 2, carry (val d 20) (chunk d 20) 3, no d 21 2, carryNo (val d 20) (chunk d 20) (no d 20) (chunkNo 20) 3, stays (val d 20) (chunk d 20) 3, val d 21 3⟩ rfl ?_; dsimp only
  refine step ⟨val d 23 0, no d 23 0, val d 23 1, no d 23 1, val d 23 2, no d 23 2, val d 23 3, no d 23 3, val d 23 4, no d 23 4, chunk d 23, 23#32⟩ rfl ?_; dsimp only
  refine step ⟨val d 25 1, no d 25 1, val d 25 2, no d 25 2, val d 25 3, no d 25 3, val d 25 4, no d 25 4, val d 26 0, carry (val d 25) (chunk d 25) 1, no d 26 0, carryNo (val d 25) (chunk d 25) (no d 25) (chunkNo 25) 1, stays (val d 25) (chunk d 25) 1, val d 26 1⟩ rfl ?_; dsimp only
  refine step ⟨val d 27 3, no d 27 3, val d 27 4, no d 27 4, val d 28 0, no d 28 0, val d 28 1, no d 28 1, val d 28 2, carry (val d 27) (chunk d 27) 3, no d 28 2, carryNo (val d 27) (chunk d 27) (no d 27) (chunkNo 27) 3⟩ rfl ?_; dsimp only
  refine step ⟨val d 30 0, no d 30 0, val d 30 1, no d 30 1, val d 30 2, no d 30 2, val d 30 3, no d 30 3, val d 30 4, no d 30 4⟩ rfl ?_; dsimp only
  refine step ⟨val d 32 1, no d 32 1, val d 32 2, no d 32 2, val d 32 3, no d 32 3, val d 32 4, no d 32 4, val d 33 0, carry (val d 32) (chunk d 32) 1, no d 33 0, carryNo (val d 32) (chunk d 32) (no d 32) (chunkNo 32) 1⟩ rfl ?_; dsimp only
  refine step ⟨no d 34 2, val d 34 3, no d 34 3, val d 34 4, no d 34 4, val d 35 0, no d 35 0, val d 35 1, no d 35 1, carryNo (val d 34) (chunk d 34) (no d 34) (chunkNo 34) 2, stays (val d 34) (chunk d 34) 2, val d 35 2, carry (val d 34) (chunk d 34) 3⟩ rfl ?_; dsimp only
  refine step ⟨val d 36 4, no d 36 4, val d 37 0, no d 37 0, val d 37 1, no d 37 1, val d 37 2, no d 37 2, val d 37 3, carry (val d 36) (chunk d 36) 4, no d 37 3, carryNo (val d 36) (chunk d 36) (no d 36) (chunkNo 36) 4, stays (val d 36) (chunk d 36) 4⟩ rfl ?_; dsimp only
  refine step ⟨no d 39 0, val d 39 1, no d 39 1, val d 39 2, no d 39 2, val d 39 3, no d 39 3, val d 39 4, no d 39 4, chunkNo 39, stays (val d 39) (chunk d 39) 0, val d 40 0, carry (val d 39) (chunk d 39) 1⟩ rfl ?_; dsimp only
  refine step ⟨val d 41 2, no d 41 2, val d 41 3, no d 41 3, val d 41 4, no d 41 4, val d 42 0, no d 42 0, val d 42 1, carry (val d 41) (chunk d 41) 2, no d 42 1, carryNo (val d 41) (chunk d 41) (no d 41) (chunkNo 41) 2, stays (val d 41) (chunk d 41) 2⟩ rfl ?_; dsimp only
  refine step ⟨no d 43 3, val d 43 4, no d 43 4, val d 44 0, no d 44 0, val d 44 1, no d 44 1, val d 44 2, no d 44 2, carryNo (val d 43) (chunk d 43) (no d 43) (chunkNo 43) 3, stays (val d 43) (chunk d 43) 3, val d 44 3, carry (val d 43) (chunk d 43) 4, no d 44 3⟩ rfl ?_; dsimp only
  refine step ⟨val d 46 0, no d 46 0, val d 46 1, no d 46 1, val d 46 2, no d 46 2, val d 46 3, no d 46 3, val d 46 4, no d 46 4, chunk d 46, chunkNo 46, stays (val d 46) (chunk d 46) 0⟩ rfl ?_; dsimp only
  refine step ⟨no d 48 1, val d 48 2, no d 48 2, val d 48 3, no d 48 3, val d 48 4, no d 48 4, val d 49 0, no d 49 0, carryNo (val d 48) (chunk d 48) (no d 48) (chunkNo 48) 1, stays (val d 48) (chunk d 48) 1, val d 49 1, carry (val d 48) (chunk d 48) 2, no d 49 1⟩ rfl ?_; dsimp only
  refine step ⟨val d 50 3, no d 50 3, val d 50 4, no d 50 4, val d 51 0, no d 51 0, val d 51 1, no d 51 1, val d 51 2, carry (val d 50) (chunk d 50) 3, no d 51 2, carryNo (val d 50) (chunk d 50) (no d 50) (chunkNo 50) 3, stays (val d 50) (chunk d 50) 3, val d 51 3⟩ rfl ?_; dsimp only
  refine step ⟨val d 53 0, no d 53 0, val d 53 1, no d 53 1, val d 53 2, no d 53 2, val d 53 3, no d 53 3, val d 53 4, no d 53 4, chunk d 53, 53#32⟩ rfl ?_; dsimp only
  refine step ⟨val d 55 1, no d 55 1, val d 55 2, no d 55 2, val d 55 3, no d 55 3, val d 55 4, no d 55 4, val d 56 0, carry (val d 55) (chunk d 55) 1, no d 56 0, carryNo (val d 55) (chunk d 55) (no d 55) (chunkNo 55) 1, stays (val d 55) (chunk d 55) 1, val d 56 1⟩ rfl ?_; dsimp only
  refine step ⟨val d 57 3, no d 57 3, val d 57 4, no d 57 4, val d 58 0, no d 58 0, val d 58 1, no d 58 1, val d 58 2, carry (val d 57) (chunk d 57) 3, no d 58 2, carryNo (val d 57) (chunk d 57) (no d 57) (chunkNo 57) 3⟩ rfl ?_; dsimp only
  refine step ⟨val d 60 0, no d 60 0, val d 60 1, no d 60 1, val d 60 2, no d 60 2, val d 60 3, no d 60 3, val d 60 4, no d 60 4⟩ rfl ?_; dsimp only
  refine step ⟨val d 62 1, no d 62 1, val d 62 2, no d 62 2, val d 62 3, no d 62 3, val d 62 4, no d 62 4, val d 63 0, carry (val d 62) (chunk d 62) 1, no d 63 0, carryNo (val d 62) (chunk d 62) (no d 62) (chunkNo 62) 1⟩ rfl ?_; dsimp only
  refine step ⟨val d 64 0, no d 64 0, val d 64 1, no d 64 1, val d 64 2, no d 64 2, val d 64 3, no d 64 3, val d 64 4, no d 64 4, lane, count (val d 64) (no d 64) 0, rows (no d 64), cand (val d 64) (no d 64)⟩ rfl ?_; dsimp only
  generalize hs : val d 64 = s
  generalize ht : no d 64 = t
  refine step ⟨fastRow s t 0, fastRow s t 1, (leftVal s t 2) 0, (leftNo s t 2) 0, (leftVal s t 2) 1, (leftNo s t 2) 1, (leftVal s t 2) 2, (leftNo s t 2) 2, (leftVal s t 2) 3, (leftNo s t 2) 3, (leftVal s t 2) 4, count s t 2, rows (leftNo s t 2), cand (leftVal s t 2) (leftNo s t 2)⟩ rfl ?_; dsimp only
  refine step ⟨fastRow s t 2, fastRow s t 3, (leftVal s t 4) 0, (leftNo s t 4) 0, (leftVal s t 4) 1, (leftNo s t 4) 1, (leftVal s t 4) 2, (leftNo s t 4) 2, (leftVal s t 4) 3, (leftNo s t 4) 3, (leftVal s t 4) 4, count s t 4, rows (leftNo s t 4), cand (leftVal s t 4) (leftNo s t 4)⟩ rfl ?_; dsimp only
  refine step ⟨fastRow s t 4, fastRow s t 5, (leftVal s t 6) 0, (leftNo s t 6) 0, (leftVal s t 6) 1, (leftNo s t 6) 1, (leftVal s t 6) 2, (leftNo s t 6) 2, (leftVal s t 6) 3, (leftNo s t 6) 3, (leftVal s t 6) 4, count s t 6, rows (leftNo s t 6), cand (leftVal s t 6) (leftNo s t 6)⟩ rfl ?_; dsimp only
  refine step ⟨fastRow s t 6, fastRow s t 7, (leftVal s t 8) 0, (leftNo s t 8) 0, (leftVal s t 8) 1, (leftNo s t 8) 1, (leftVal s t 8) 2, (leftNo s t 8) 2, (leftVal s t 8) 3, (leftNo s t 8) 3, (leftVal s t 8) 4, count s t 8, rows (leftNo s t 8), cand (leftVal s t 8) (leftNo s t 8)⟩ rfl ?_; dsimp only
  refine step ⟨fastRow s t 8, fastRow s t 9, (leftVal s t 10) 0, (leftNo s t 10) 0, (leftVal s t 10) 1, (leftNo s t 10) 1, (leftVal s t 10) 2, (leftNo s t 10) 2, (leftVal s t 10) 3, (leftNo s t 10) 3, (leftVal s t 10) 4, count s t 10, rows (leftNo s t 10), cand (leftVal s t 10) (leftNo s t 10)⟩ rfl ?_; dsimp only
  refine step ⟨fastRow s t 10, fastRow s t 11, (leftVal s t 12) 0, (leftNo s t 12) 0, (leftVal s t 12) 1, (leftNo s t 12) 1, (leftVal s t 12) 2, (leftNo s t 12) 2, (leftVal s t 12) 3, (leftNo s t 12) 3, count s t 12, rows (leftNo s t 12), fastRow s t 12, picks (leftVal s t 12) (leftNo s t 12)⟩ rfl ?_; dsimp only
  refine step ⟨fastRow s t 13, fastRow s t 14, (leftVal s t 15) 0, count s t 15, least (leftVal s t 15), rows (leftNo s t 15)⟩ rfl ?_; dsimp only
  refine (Prog.bind_assoc _ _ _).trans (ask _ fun _ => ?_)
  refine (Prog.bind_assoc _ _ _).trans (ask' rfl fun _ => ?_)
  by_cases h : deep (F := F) (count s t 16) = 1#1
  · refine Eq.trans (congrArg (fun p => p >>= _) (if_pos h)) (Eq.trans ?_ (if_pos h).symm)
    refine (Prog.bind_assoc _ _ _).trans (step ⟨slowRow d 0, slowRow d 1, slowRow d 2, slowRow d 3, slowed d 4⟩ rfl ?_)
    refine (Prog.bind_assoc _ _ _).trans (step ⟨slowRow d 4, slowRow d 5, slowRow d 6, slowRow d 7, slowed d 8⟩ rfl ?_)
    refine (Prog.bind_assoc _ _ _).trans (step ⟨slowRow d 8, slowRow d 9, slowRow d 10, slowRow d 11, slowed d 12⟩ rfl ?_)
    refine (Prog.bind_assoc _ _ _).trans ((Prog.bind_assoc _ _ _).trans (ask _ fun _ => ?_))
    refine step (sixteen (slowRow d)) rfl ?_
    refine (Prog.bind_assoc _ _ _).trans (ask _ fun _ => ?_)
    refine (Prog.bind_assoc _ _ _).trans (ask _ fun _ => ?_)
    refine (Prog.bind_assoc _ _ _).trans (ask _ fun _ => ?_)
    refine (Prog.bind_assoc _ _ _).trans (ask _ fun _ => ?_)
    refine (Prog.bind_assoc _ _ _).trans (ask' rfl fun _ => ?_)
    refine (Prog.bind_assoc _ _ _).trans (ask _ fun _ => ?_)
    rfl
  · refine Eq.trans (congrArg (fun p => p >>= _) (if_neg h)) (Eq.trans ?_ (if_neg h).symm)
    refine (Prog.bind_assoc _ _ _).trans (ask _ fun _ => ?_)
    refine (Prog.bind_assoc _ _ _).trans (ask _ fun _ => ?_)
    refine (Prog.bind_assoc _ _ _).trans (ask _ fun _ => ?_)
    refine (Prog.bind_assoc _ _ _).trans (ask' rfl fun _ => ?_)
    refine (Prog.bind_assoc _ _ _).trans (ask _ fun _ => ?_)
    rfl

end Cert.Proof.Whole

end
-- ==== Proof.CallTile.lean ====
/-
  The row gather on the vector subcores, one subcore's task: inside the whole program, at any float values and operations.

  Subcore `s` of SparseCore `c` owns rows `4096 * (2 * s + c) ‥ + 4096` of the result. In eight trips it fetches 512
  words of the index array into its list, gathers the 512 table rows the list names into its row buffer and writes the
  buffer out. The table and the index array are read by all subcores at once, so each holds a share of them; the
  result's rows it holds outright. What the task leaves in its rows is stated: row `r` is row `idx[r]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.ValueIdxCore
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Call

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
/-- Where the staging cells of the two gridded calls keep their rounds. -/
abbrev EP : Emb (UR sig nD τ) (MT nD τ sig (HIx 1) (Elt F) ℕ UU ℕ) := (Emb.inl : Emb (UR sig nD τ) (UR sig nD τ × Counters)).trans embR

abbrev tLoc (d : Dev nD) : Loc nD τ sig := (SparseCore.T d).loc main_v9_2
abbrev iLoc (d : Dev nD) : Loc nD τ sig := (SparseCore.T d).loc main_v10
abbrev oLoc (d : Dev nD) : Loc nD τ sig := (SparseCore.T d).loc main_v11

local notation "tV" => (Memref.whole Cert.KernelIdeal.main_v9_2_scv : Memref Cert.KernelIdeal.sig Kind.scVector Space.hbm Cert.KernelIdeal.S8192x128 EltTy.f32)
local notation "iV" => (Memref.whole Cert.KernelIdeal.main_v10_scv : Memref Cert.KernelIdeal.sig Kind.scVector Space.hbm Cert.KernelIdeal.S131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

/-! ## What the call computes -/

/-- Row `r` of the result is row `idx[r]` of the table (an index past the table, which the claim excludes, wraps). -/
def gathered (tab : S8192x128.Idx → Elt F .f32) (idx : S131072.Idx → Elt F .i32) : S131072x128.Idx → Elt F .f32 :=
  fun x => tab (ix2 (⟨(idx (ix1 (x 0)) : BitVec 32).toNat % 8192, Nat.mod_lt _ (by decide)⟩ : Fin 8192) (x 1))

/-- The rows subcore `s` of SparseCore `c` owns. -/
def tileSet (c s : ℕ) : Finset S131072x128.Idx := Finset.univ.filter fun x => (x 0).val / 4096 = 2 * s + c
/-- The rows SparseCore `c` owns. -/
def coreSet (c : ℕ) : Finset S131072x128.Idx := Finset.univ.filter fun x => (x 0).val / 4096 % 2 = c

/-- The share of the table and of the index array SparseCore `c` is handed; subcore `s`'s part of it. -/
abbrev coreShare (c : Fin 2) : PosShare TreeShare := pieceOf fullShare 2 (by decide) c
abbrev tileShare (c : Fin 2) (s : Fin 16) : PosShare TreeShare := pieceOf (coreShare c) 16 (by decide) s

section Tile

variable (tab : (d : Dev nD) → Buf (Elt F) (tLoc d)) (idx : (d : Dev nD) → Buf (Elt F) (iLoc d))

/-- Every word of the index array names a row of the table. -/
def IdxOK : Prop := ∀ (d : Dev nD) (j : S131072.Idx), (idx d j : BitVec 32).toNat < 8192

variable (d : Dev nD) (L : grid1.Coords)

abbrev cV (L : grid1.Coords) : Fin τ.nSC := (L 0).castLE hcore1
abbrev jV (L : grid1.Coords) : Fin τ.nSub := (L 1).castLE hsub1
abbrev cL (L : grid1.Coords) : Fin 2 := L 0
abbrev sL (L : grid1.Coords) : Fin 16 := L 1
abbrev thr (d : Dev nD) (L : grid1.Coords) : Thread nD τ := V d (cV L) (jV L)

/-- The words of the index array trip `t` fetches, the rows it writes, and all of the table, as the task addresses them. -/
abbrev iK (L : grid1.Coords) (t : Fin k1_t1_loop.trips) : Memref sig .scVector .hbm S512 .i32 :=
  (iV).slice (Rect.unit (s := S131072) (k1_off1 L t) S512.size (k1_off1_inb L t)) (fun _ => rfl)
abbrev oK (L : grid1.Coords) (t : Fin k1_t1_loop.trips) : Memref sig .scVector .hbm S512x128 .f32 :=
  (oV).slice (Rect.unit (s := S131072x128) (k1_off2 L t) S512x128.size (k1_off2_inb L t)) (fun _ => rfl)
abbrev tK : Memref sig .scVector .hbm S8192x128 .f32 :=
  (tV).slice (Rect.unit (s := S8192x128) ![0, 0] S8192x128.size inb_S8192x128_S8192x128_0_0) (fun _ => rfl)

/-- Row `r` of trip `t`'s block, as a row of the whole result. -/
def rowAt (L : grid1.Coords) (t : Fin k1_t1_loop.trips) (r : Fin 512) : Fin 131072 :=
  ⟨8192 * (L 1).val + 4096 * (L 0).val + 512 * t.val + r.val, by
    have h0 : (L 0).val < 2 := (L 0).isLt
    have h1 : (L 1).val < 16 := (L 1).isLt
    have h2 : t.val < 8 := Nat.lt_of_lt_of_le t.isLt k1_t1_abs.2.1
    omega⟩

theorem emb_iK (t : Fin k1_t1_loop.trips) (j : S512.Idx) : (iK L t).view.emb j = ix1 (rowAt L t (j 0)) := by
  funext a
  match a with
  | ⟨0, _⟩ =>
    apply Fin.ext
    show ((Rect.unit (s := S131072) (k1_off1 L t) S512.size (k1_off1_inb L t)).emb j 0).val = _
    rw [Rect.emb_apply]
    simp only [Rect.unit, k1_off1_eq]
    show 8192 * (L 1).val + 4096 * (L 0).val + 512 * t.val + 1 * (j 0).val = 8192 * (L 1).val + 4096 * (L 0).val + 512 * t.val + (j 0).val
    omega

theorem emb_oK (t : Fin k1_t1_loop.trips) (j : S512x128.Idx) : (oK L t).view.emb j = ix2 (rowAt L t (j 0)) (j 1) := by
  funext a
  match a with
  | ⟨0, _⟩ =>
    apply Fin.ext
    show ((Rect.unit (s := S131072x128) (k1_off2 L t) S512x128.size (k1_off2_inb L t)).emb j 0).val = _
    rw [Rect.emb_apply]
    simp only [Rect.unit, k1_off2_eq]
    show 8192 * (L 1).val + 4096 * (L 0).val + 512 * t.val + 1 * (j 0).val = 8192 * (L 1).val + 4096 * (L 0).val + 512 * t.val + (j 0).val
    omega
  | ⟨1, _⟩ =>
    apply Fin.ext
    show ((Rect.unit (s := S131072x128) (k1_off2 L t) S512x128.size (k1_off2_inb L t)).emb j 1).val = _
    rw [Rect.emb_apply]
    simp only [Rect.unit, k1_off2_eq]
    show 0 + 1 * (j 1).val = (j 1).val
    omega

theorem emb_tK (j : S8192x128.Idx) : (tK).view.emb j = j := by
  funext a
  apply Fin.ext
  show ((Rect.unit (s := S8192x128) ![0, 0] S8192x128.size inb_S8192x128_S8192x128_0_0).emb j a).val = _
  rw [Rect.emb_apply]
  match a with
  | ⟨0, _⟩ => show 0 + 1 * (j 0).val = (j 0).val; omega
  | ⟨1, _⟩ => show 0 + 1 * (j 1).val = (j 1).val; omega

theorem read_iK (t : Fin k1_t1_loop.trips) (f : Buf (Elt F) (iLoc d)) (j : S512.Idx) :
    (iK L t).view.read (Elt F) f j = f (ix1 (rowAt L t (j 0))) :=
  ((View.read_apply _ _).trans (cast_eq _ _)).trans (congrArg f (emb_iK L t j))

theorem read_tK (f : Buf (Elt F) (tLoc d)) (j : S8192x128.Idx) : (tK).view.read (Elt F) f j = f j :=
  ((View.read_apply _ _).trans (cast_eq _ _)).trans (congrArg f (emb_tK j))

/-- The list trip `t` fetched, read back: the words of the index array for the block's rows. -/
theorem read_list (t : Fin k1_t1_loop.trips) (fs : Buf (Elt F) ((thr d L).loc cc1_scratch0)) (j : S512.Idx) :
    (lV).view.read (Elt F) (View.write (Elt F) (lV).view fs ((iK L t).view.read (Elt F) (idx d)) Finset.univ) j = idx d (ix1 (rowAt L t (j 0))) := by
  rw [View.write_whole_univ]
  simp only [Memref.view_whole, View.read_whole]
  exact read_iK d L t (idx d) j

/-- The row buffer written whole, read back. -/
theorem read_buf (fr : Buf (Elt F) ((thr d L).loc cc1_scratch1)) (w : S512x128.Idx → Elt F .f32) (j : S512x128.Idx) :
    (rV).view.read (Elt F) (View.write (Elt F) (rV).view fr w Finset.univ) j = w j := by
  rw [View.write_whole_univ]
  simp only [Memref.view_whole, View.read_whole]

theorem set_oK_subset (t : Fin k1_t1_loop.trips) : (oK L t).view.set ⊆ tileSet (L 0).val (L 1).val := by
  intro x hx
  obtain ⟨j, -, rfl⟩ := Finset.mem_map.mp hx
  simp only [tileSet, Finset.mem_filter, Finset.mem_univ, true_and]
  rw [emb_oK]
  show (8192 * (L 1).val + 4096 * (L 0).val + 512 * t.val + (j 0).val) / 4096 = _
  have h2 : t.val < 8 := Nat.lt_of_lt_of_le t.isLt k1_t1_abs.2.1
  have h3 : (j 0).val < 512 := (j 0).isLt
  omega

/-- The first `t` blocks of the subcore's rows hold the gathered rows. -/
def DoneTo (t : ℕ) (f : Buf (Elt F) (oLoc d)) : Prop :=
  ∀ x ∈ tileSet (L 0).val (L 1).val, (x 0).val < 8192 * (L 1).val + 4096 * (L 0).val + 512 * t → f x = gathered (tab d) (idx d) x

theorem rows_mk (hok : IdxOK idx) (t : Fin k1_t1_loop.trips) (fs : Buf (Elt F) ((thr d L).loc cc1_scratch0)) (x : S512.Idx) :
    ((lV).view.read (Elt F) (View.write (Elt F) (lV).view fs ((iK L t).view.read (Elt F) (idx d)) Finset.univ) x : BitVec 32).toNat
      < S8192x128.size gathers_S8192x128_S512x128.axis := by
  rw [read_list]; exact hok d _

/-- One trip's effect on the result: the write of the gathered block extends the rows done. -/
theorem done_step (hok : IdxOK idx) (t : Fin k1_t1_loop.trips) (f : Buf (Elt F) (oLoc d)) (hf : DoneTo tab idx d L t.val f)
    (fs : Buf (Elt F) ((thr d L).loc cc1_scratch0)) (fr : Buf (Elt F) ((thr d L).loc cc1_scratch1)) :
    DoneTo tab idx d L (t.val + 1)
      ((oK L t).view.write (Elt F) f ((rV).view.read (Elt F) ((rV).view.write (Elt F) fr
        (SparseCore.gatherPayload gathers_S8192x128_S512x128 ((tK).view.read (Elt F) (tab d))
          (SparseCore.rows ((lV).view.read (Elt F) (View.write (Elt F) (lV).view fs ((iK L t).view.read (Elt F) (idx d)) Finset.univ)) rfl
            (rows_mk idx d L hok t fs))) Finset.univ)) Finset.univ) := by
  intro x hx hlt
  by_cases hin : x ∈ (oK L t).view.set
  · obtain ⟨j, -, rfl⟩ := Finset.mem_map.mp hin
    rw [View.write_emb_of_mem _ _ (Finset.mem_univ _)]
    refine (cast_eq _ _).trans ((read_buf d L fr _ j).trans ?_)
    unfold SparseCore.gatherPayload gathered
    rw [read_tK d (tab d), emb_oK]
    refine congrArg (tab d) ?_
    funext a
    match a with
    | ⟨0, _⟩ =>
      refine (Shape.Gathers.idx_axis gathers_S8192x128_S512x128 _ j).trans ?_
      apply Fin.ext
      show ((lV).view.read (Elt F) (View.write (Elt F) (lV).view fs ((iK L t).view.read (Elt F) (idx d)) Finset.univ) _ : BitVec 32).toNat = (idx d (ix1 (rowAt L t (j 0))) : BitVec 32).toNat % 8192
      rw [read_list, Nat.mod_eq_of_lt (hok d _)]
      congr 4
      apply Fin.ext
      have := Shape.rowMajor_val_one (S512.rowMajor.symm ((j gathers_S8192x128_S512x128.axis').cast rfl))
      rw [Equiv.apply_symm_apply] at this
      exact this.symm
    | ⟨1, _⟩ =>
      apply Fin.ext
      exact Shape.Gathers.idx_of_ne gathers_S8192x128_S512x128 _ j 1 (by decide)
  · rw [View.write_of_not_mem _ _ _ (by rw [View.setOn_univ]; exact hin)]
    refine hf x hx ?_
    by_contra hge
    refine hin ?_
    have h0 : (x 0).val - (8192 * (L 1).val + 4096 * (L 0).val + 512 * t.val) < 512 := by omega
    refine Finset.mem_map.mpr ⟨ix2 (⟨_, h0⟩ : Fin 512) (x 1), Finset.mem_univ _, ?_⟩
    refine (emb_oK L t _).trans ?_
    funext a
    match a with
    | ⟨0, _⟩ =>
      apply Fin.ext
      show 8192 * (L 1).val + 4096 * (L 0).val + 512 * t.val + ((x 0).val - (8192 * (L 1).val + 4096 * (L 0).val + 512 * t.val)) = (x 0).val
      omega
    | ⟨1, _⟩ => rfl

theorem done_zero (f : Buf (Elt F) (oLoc d)) : DoneTo tab idx d L 0 f := by
  intro x hx hlt
  simp only [tileSet, Finset.mem_filter, Finset.mem_univ, true_and] at hx
  omega

theorem done_all (f : Buf (Elt F) (oLoc d)) (hf : DoneTo tab idx d L 8 f) : ∀ x ∈ tileSet (L 0).val (L 1).val, f x = gathered (tab d) (idx d) x := by
  intro x hx
  refine hf x hx ?_
  simp only [tileSet, Finset.mem_filter, Finset.mem_univ, true_and] at hx
  omega

end Tile

end Cert.Proof.Call

end
-- ==== Proof.Bodies.lean ====
/-
  The two TensorCore bodies as steps on memrefs held whole: what each leaves in its output blocks, from what its
  input blocks read.
-/
module

public import proofs.«01_k».proof.Proof.Stage
public import proofs.«01_k».proof.Proof.CallTile
public import Idealize.ShloMosaic.Lib.VecWindow

@[expose] public section

noncomputable section

namespace Cert.Proof.Whole

open Idealize.ShloMosaic
open Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Call (UU)

variable {F : FTy → Type} [FloatOps F]

local notation "𝕄" => MT nD τ sig (HIx 1) (Elt F) ℕ UU ℕ

section Access

variable {Λ : Labels} {defs : Defs nD τ sig (Elt F) Λ} (𝒱 : Variants) (c : Thread nD τ) (bd : Option 𝒱.V) (E : Set ℕ)
variable {s : Shape} {e : EltTy} {α : Type}

/-- Reading the whole of a memref that is owned. -/
theorem load_full {cs : CoreSpace} {m : Memref sig c.2.kind cs s e} {off : Fin s.rank → ℕ} {inb : ∀ a, off a + s.size a ≤ s.size a}
    {hl : m.view.LoadsAt (Rect.unit off s.size inb).toLoadRect}
    {k : ((Rect.unit off s.size inb).toLoadRect.shape.Idx → Elt F e) → Prog (TpuEff nD τ sig (Elt F) Λ c.2) α}
    {q : PosShare TreeShare} {X : s.Idx → Elt F e} {Q : α → sProp 𝕄} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  unfold owns
  iintro H Hk
  icases H with ⟨%f, %hf, H⟩
  have hS : m.view.setOn (Rect.unit off s.size inb).toLoadRect.set ⊆ m.view.set := Finset.map_subset_map.mpr (Finset.subset_univ _)
  iapply (wp_load 𝒱 c bd E (hl := hl) (k := k) (S := m.view.set) (q := q) (f := f) hS) $$ [H]
  · iexact H
  iintro H
  rw [show m.view.readAt (Elt F) (Rect.unit off s.size inb).toLoadRect f = X from (View.readAt_full m.view f inb).trans hf]
  iapply Hk $$ [H]
  iexists f
  isplitr; · ipureintro; exact hf
  iexact H

/-- Writing the whole of a memref that is owned. -/
theorem store_full {cs : CoreSpace} {m : Memref sig c.2.kind cs s e} {off : Fin s.rank → ℕ} {inb : ∀ a, off a + s.size a ≤ s.size a}
    {w : (Rect.unit off s.size inb).shape.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ c.2) α} {X : s.Idx → Elt F e} {Q : α → sProp 𝕄} :
    (owns c m fullShare X : sProp 𝕄)
      ⊢ iprop((owns c m fullShare (fun y : s.Idx => w y) -∗ wp frame (wpE defs 𝒱 c bd) E (k ⟨⟩) Q)
        -∗ wp frame (wpE defs 𝒱 c bd) E (.op (.store m (Rect.unit off s.size inb) w Finset.univ hx hm) k) Q) := by
  unfold owns
  iintro H Hk
  icases H with ⟨%f, %hf, H⟩
  have hS : (m.access (Rect.unit off s.size inb)).set ⊆ m.view.set := by
    rw [View.set_slice]; exact Finset.map_subset_map.mpr (Finset.subset_univ _)
  iapply (wp_store_writes₀ 𝒱 c bd E (hx := hx) (hm := hm) (k := k) (S := m.view.set) (f := f) hS) $$ [H]
  · iexact H
  iintro H
  iapply Hk $$ [H]
  iexists _
  isplitr; swap; · iexact H
  ipureintro
  exact View.read_writes_full m.view f inb w []

end Access

/-- `x` times half of one and the error function of `x` over the root of two. -/
def act (s : Shape) (x : FVec F s .f32) : FVec F s .f32 :=
  mulf (mulf (broadcast s (Scalar.ofBits .f32 0x3F000000#32)) x)
    (addf (broadcast s (Scalar.ofBits .f32 0x3F800000#32)) (erf (mulf x (broadcast s (Scalar.ofBits .f32 0x3F3504F3#32)))))

/-- The edge layer's share of the centre point. -/
def blockU (x : FVec F S256x64 .f32) (w : FVec F S64x64 .f32) (b : FVec F S1x64 .f32) : FVec F S256x64 .f32 :=
  addf (matmul dot_S256x64_S64x64_S256x64_1_0_0_1_n_n none (shapeCast S256x64 x shapeCasts_S256x64_S256x64) (shapeCast S64x64 w shapeCasts_S64x64_S64x64) (constant S256x64 .f32 0x00000000#32))
    (broadcastTo S256x64 (shapeCast S1x64 b shapeCasts_S1x64_S1x64) broadcasts_S1x64_S256x64)

/-- The edge layer's share of the neighbour, in rows of 128. -/
def blockV (x : FVec F S256x64 .f32) (w : FVec F S64x64 .f32) : FVec F S256x128 .f32 :=
  concatenate S256x128 1 [⟨S256x64, matmul dot_S256x64_S64x64_S256x64_1_0_0_1_n_n none (shapeCast S256x64 x shapeCasts_S256x64_S256x64) (shapeCast S64x64 w shapeCasts_S64x64_S64x64) (constant S256x64 .f32 0x00000000#32)⟩,
    ⟨S256x64, broadcast S256x64 (Scalar.ofBits .f32 0x00000000#32)⟩] concatenates_S256x64_S256x64_S256x128_d1

/-- The neighbours of the block's points. -/
def blockI (i : grid0.Coords) (x : FVec F S8192x64 .f32) (y : FVec F S256x64 .f32) : IVec S16x256 32 :=
  block (dist i (shapeCast S8192x64 x shapeCasts_S8192x64_S8192x64) (shapeCast S256x64 y shapeCasts_S256x64_S256x64))

/-- The third stage's block. -/
def third (u : FVec F S256x64 .f32) (g : FVec F S16x256x128 .f32) (w : FVec F S64x64 .f32) (b : FVec F S1x64 .f32) : FVec F S256x64 .f32 :=
  multiReduction .maximumf [0] S256x64
    (shapeCast S16x256x64
      (act S4096x64 (addf
        (matmul dot_S4096x64_S64x64_S4096x64_1_0_0_1_n_n none
          (shapeCast S4096x64
            (act S16x256x64 (addf (extractStridedSlice S16x256x64 ![0, 0, 0] (shapeCast S16x256x128 g shapeCasts_S16x256x128_S16x256x128) slices_S16x256x128_o0_0_0_S16x256x64)
              (broadcastTo S16x256x64 (shapeCast S1x256x64 (shapeCast S256x64 u shapeCasts_S256x64_S256x64) shapeCasts_S256x64_S1x256x64) broadcasts_S1x256x64_S16x256x64)))
            shapeCasts_S16x256x64_S4096x64)
          (shapeCast S64x64 w shapeCasts_S64x64_S64x64) (constant S4096x64 .f32 0x00000000#32))
        (broadcastTo S4096x64 (shapeCast S1x64 b shapeCasts_S1x64_S1x64) broadcasts_S1x64_S4096x64)))
      shapeCasts_S4096x64_S16x256x64)
    0xFF800000#32 reduces_S16x256x64_S256x64 (.inl rfl) rfl

section Bodies

variable {defs : Defs nD τ sig (Elt F) Λ₀} (𝒱 : Variants) (d : Dev nD) (bd : Option 𝒱.V) (E : Set ℕ)

theorem stage1_run (i : grid0.Coords) (arg1 : Memref sig .tc .vmem S8192x64 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S16x256 .i32) (harg6 : arg6.IsWhole) (arg7 : Memref sig .tc .vmem S256x64 .f32) (harg7 : arg7.IsWhole) (arg8 : Memref sig .tc .vmem S256x128 .f32) (harg8 : arg8.IsWhole)
    (x1 : FVec F S8192x64 .f32) (x2 : FVec F S256x64 .f32) (x3 x4 : FVec F S64x64 .f32) (x5 : FVec F S1x64 .f32)
    (x6 : IVec S16x256 32) (x7 : FVec F S256x64 .f32) (x8 : FVec F S256x128 .f32) (Q : PUnit → sProp 𝕄) :
    iprop((owns (d.tc : Thread nD τ) arg1 fullShare x1 : sProp 𝕄) ∗ owns (d.tc : Thread nD τ) arg2 fullShare x2 ∗ owns (d.tc : Thread nD τ) arg3 fullShare x3
        ∗ owns (d.tc : Thread nD τ) arg4 fullShare x4 ∗ owns (d.tc : Thread nD τ) arg5 fullShare x5 ∗ owns (d.tc : Thread nD τ) arg6 fullShare (Val := Elt F) (e := .i32) x6
        ∗ owns (d.tc : Thread nD τ) arg7 fullShare x7 ∗ owns (d.tc : Thread nD τ) arg8 fullShare x8
        ∗ ((owns (d.tc : Thread nD τ) arg1 fullShare x1 ∗ owns (d.tc : Thread nD τ) arg2 fullShare x2 ∗ owns (d.tc : Thread nD τ) arg3 fullShare x3
            ∗ owns (d.tc : Thread nD τ) arg4 fullShare x4 ∗ owns (d.tc : Thread nD τ) arg5 fullShare x5
            ∗ owns (d.tc : Thread nD τ) arg6 fullShare (Val := Elt F) (e := .i32) (blockI i x1 x2)
            ∗ owns (d.tc : Thread nD τ) arg7 fullShare (blockU x2 x3 x5) ∗ owns (d.tc : Thread nD τ) arg8 fullShare (blockV x2 x4)) -∗ Q ⟨⟩))
      ⊢ wp frame (wpE defs 𝒱 (d.tc : Thread nD τ) bd) E (cc0__stage1_body (F := F) i arg1 harg1 arg2 harg2 arg3 harg3 arg4 harg4 arg5 harg5 arg6 harg6 arg7 harg7 arg8 harg8) Q := by
  rw [stage1_eq]
  unfold stage1
  iintro ⟨H1, H2, H3, H4, H5, H6, H7, H8, Hk⟩
  iapply (load_full 𝒱 (d.tc : Thread nD τ) bd E (m := arg1)) $$ [H1]
  · iexact H1
  iintro H1
  iapply (load_full 𝒱 (d.tc : Thread nD τ) bd E (m := arg2)) $$ [H2]
  · iexact H2
  iintro H2
  iapply (load_full 𝒱 (d.tc : Thread nD τ) bd E (m := arg6)) $$ [H6]
  · iexact H6
  iintro H6
  iapply (store_full 𝒱 (d.tc : Thread nD τ) bd E (m := arg6)) $$ [H6]
  · iexact H6
  iintro H6
  by_cases hd : deep (F := F) (count (val (dist i (shapeCast S8192x64 x1 shapeCasts_S8192x64_S8192x64) (shapeCast S256x64 x2 shapeCasts_S256x64_S256x64)) 64)
      (no (dist i (shapeCast S8192x64 x1 shapeCasts_S8192x64_S8192x64) (shapeCast S256x64 x2 shapeCasts_S256x64_S256x64)) 64) 16) = 1#1
  · have hb : blockI i x1 x2 = sixteen (slowRow (dist i (shapeCast S8192x64 x1 shapeCasts_S8192x64_S8192x64) (shapeCast S256x64 x2 shapeCasts_S256x64_S256x64))) := if_pos hd
    rw [hb, if_pos hd]
    iapply (load_full 𝒱 (d.tc : Thread nD τ) bd E (m := arg6)) $$ [H6]
    · iexact H6
    iintro H6
    iapply (store_full 𝒱 (d.tc : Thread nD τ) bd E (m := arg6)) $$ [H6]
    · iexact H6
    iintro H6
    iapply (load_full 𝒱 (d.tc : Thread nD τ) bd E (m := arg3)) $$ [H3]
    · iexact H3
    iintro H3
    iapply (load_full 𝒱 (d.tc : Thread nD τ) bd E (m := arg5)) $$ [H5]
    · iexact H5
    iintro H5
    iapply (load_full 𝒱 (d.tc : Thread nD τ) bd E (m := arg7)) $$ [H7]
    · iexact H7
    iintro H7
    iapply (store_full 𝒱 (d.tc : Thread nD τ) bd E (m := arg7)) $$ [H7]
    · iexact H7
    iintro H7
    iapply (load_full 𝒱 (d.tc : Thread nD τ) bd E (m := arg4)) $$ [H4]
    · iexact H4
    iintro H4
    iapply (load_full 𝒱 (d.tc : Thread nD τ) bd E (m := arg8)) $$ [H8]
    · iexact H8
    iintro H8
    iapply (store_full 𝒱 (d.tc : Thread nD τ) bd E (m := arg8)) $$ [H8]
    · iexact H8
    iintro H8
    iapply (le_wp_ret _ _ _ _ _)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hb : blockI i x1 x2 = sixteen (fastRow (val (dist i (shapeCast S8192x64 x1 shapeCasts_S8192x64_S8192x64) (shapeCast S256x64 x2 shapeCasts_S256x64_S256x64)) 64) (no (dist i (shapeCast S8192x64 x1 shapeCasts_S8192x64_S8192x64) (shapeCast S256x64 x2 shapeCasts_S256x64_S256x64)) 64)) := if_neg hd
    rw [hb, if_neg hd]
    iapply (load_full 𝒱 (d.tc : Thread nD τ) bd E (m := arg3)) $$ [H3]
    · iexact H3
    iintro H3
    iapply (load_full 𝒱 (d.tc : Thread nD τ) bd E (m := arg5)) $$ [H5]
    · iexact H5
    iintro H5
    iapply (load_full 𝒱 (d.tc : Thread nD τ) bd E (m := arg7)) $$ [H7]
    · iexact H7
    iintro H7
    iapply (store_full 𝒱 (d.tc : Thread nD τ) bd E (m := arg7)) $$ [H7]
    · iexact H7
    iintro H7
    iapply (load_full 𝒱 (d.tc : Thread nD τ) bd E (m := arg4)) $$ [H4]
    · iexact H4
    iintro H4
    iapply (load_full 𝒱 (d.tc : Thread nD τ) bd E (m := arg8)) $$ [H8]
    · iexact H8
    iintro H8
    iapply (store_full 𝒱 (d.tc : Thread nD τ) bd E (m := arg8)) $$ [H8]
    · iexact H8
    iintro H8
    iapply (le_wp_ret _ _ _ _ _)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem stage3_run (i : grid2.Coords) (arg1 : Memref sig .tc .vmem S256x64 .f32) (harg1 : arg1.IsWhole) (arg2 : Memref sig .tc .vmem S16x256x128 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S256x64 .f32) (harg5 : arg5.IsWhole)
    (x1 : FVec F S256x64 .f32) (x2 : FVec F S16x256x128 .f32) (x3 : FVec F S64x64 .f32) (x4 : FVec F S1x64 .f32) (x5 : FVec F S256x64 .f32) (Q : PUnit → sProp 𝕄) :
    iprop((owns (d.tc : Thread nD τ) arg1 fullShare x1 : sProp 𝕄) ∗ owns (d.tc : Thread nD τ) arg2 fullShare x2 ∗ owns (d.tc : Thread nD τ) arg3 fullShare x3
        ∗ owns (d.tc : Thread nD τ) arg4 fullShare x4 ∗ owns (d.tc : Thread nD τ) arg5 fullShare x5
        ∗ ((owns (d.tc : Thread nD τ) arg1 fullShare x1 ∗ owns (d.tc : Thread nD τ) arg2 fullShare x2 ∗ owns (d.tc : Thread nD τ) arg3 fullShare x3
            ∗ owns (d.tc : Thread nD τ) arg4 fullShare x4 ∗ owns (d.tc : Thread nD τ) arg5 fullShare (third x1 x2 x3 x4)) -∗ Q ⟨⟩))
      ⊢ wp frame (wpE defs 𝒱 (d.tc : Thread nD τ) bd) E (cc2__stage3_body (F := F) i arg1 harg1 arg2 harg2 arg3 harg3 arg4 harg4 arg5 harg5) Q := by
  unfold cc2__stage3_body
  iintro ⟨H1, H2, H3, H4, H5, Hk⟩
  iapply (load_full 𝒱 (d.tc : Thread nD τ) bd E (m := arg1)) $$ [H1]
  · iexact H1
  iintro H1
  iapply (load_full 𝒱 (d.tc : Thread nD τ) bd E (m := arg2)) $$ [H2]
  · iexact H2
  iintro H2
  iapply (load_full 𝒱 (d.tc : Thread nD τ) bd E (m := arg3)) $$ [H3]
  · iexact H3
  iintro H3
  iapply (load_full 𝒱 (d.tc : Thread nD τ) bd E (m := arg4)) $$ [H4]
  · iexact H4
  iintro H4
  iapply (load_full 𝒱 (d.tc : Thread nD τ) bd E (m := arg5)) $$ [H5]
  · iexact H5
  iintro H5
  iapply (store_full 𝒱 (d.tc : Thread nD τ) bd E (m := arg5)) $$ [H5]
  · iexact H5
  iintro H5
  iapply (le_wp_ret _ _ _ _ _)
  iapply Hk
  isplitl [H1]; · iexact H1
  isplitl [H2]; · iexact H2
  isplitl [H3]; · iexact H3
  isplitl [H4]; · iexact H4
  iexact H5

end Bodies

end Cert.Proof.Whole
-- ==== Proof.CallBody.lean ====
/-
  The row gather on the vector subcores, the body run: from its shares of the table and of the index array and its rows
  of the result, a subcore's task ends with the gathered rows in its rows, its shares back and its semaphores at zero.
-/
module

public import proofs.«01_k».proof.Proof.CallTile

@[expose] public section

set_option maxRecDepth 16384

noncomputable section

namespace Cert.Proof.Call

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v9_2_scv : Memref Cert.KernelIdeal.sig Kind.scVector Space.hbm Cert.KernelIdeal.S8192x128 EltTy.f32)
local notation "iV" => (Memref.whole Cert.KernelIdeal.main_v10_scv : Memref Cert.KernelIdeal.sig Kind.scVector Space.hbm Cert.KernelIdeal.S131072 EltTy.i32)
local notation "oV" => (Memref.whole Cert.KernelIdeal.main_v11_scv : Memref Cert.KernelIdeal.sig Kind.scVector Space.hbm Cert.KernelIdeal.S131072x128 EltTy.f32)
local notation "lV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (tab : (d : Dev nD) → Buf (Elt F) (tLoc d)) (idx : (d : Dev nD) → Buf (Elt F) (iLoc d)) (out : (d : Dev nD) → Buf (Elt F) (oLoc d))

/-! ## What the handshakes carry -/

/-- A SparseCore is handed its share of the table and of the index array and its rows of the result; a task its. Both
    hand back the shares, and the rows holding the gathered rows. -/
def P : (K (F := F)).Pay (nD := nD) (Val := Elt F) (Name := ℕ) (U := UU) where
  st := fun q d c => match q with
    | 0 => iprop((tLoc d ↦{coreShare c} tab d) ∗ (iLoc d ↦{coreShare c} idx d) ∗ oLoc d ↦[coreSet c.val]{fullShare} out d)
  dn := fun q d c => match q with
    | 0 => iprop((tLoc d ↦{coreShare c} tab d) ∗ (iLoc d ↦{coreShare c} idx d) ∗ oLoc d ↦[coreSet c.val]{fullShare} gathered (tab d) (idx d))
  go := fun q d c i => match q with
    | 0 => iprop((tLoc d ↦{tileShare c i} tab d) ∗ (iLoc d ↦{tileShare c i} idx d) ∗ oLoc d ↦[tileSet c.val i.val]{fullShare} out d)
  td := fun q d c i => match q with
    | 0 => iprop((tLoc d ↦{tileShare c i} tab d) ∗ (iLoc d ↦{tileShare c i} idx d) ∗ oLoc d ↦[tileSet c.val i.val]{fullShare} gathered (tab d) (idx d))
  x := fun _ _ => iprop(emp)

instance P_storable : (P (F := F) tab idx out).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

section Tile

variable (d : Dev nD) (L : grid1.Coords)

abbrev cAcell (d : Dev nD) (L : grid1.Coords) : GSem nD τ sig := (thr d L, .dma cc1_scratch2.sem)
abbrev cBcell (d : Dev nD) (L : grid1.Coords) : GSem nD τ sig := (thr d L, .dma cc1_scoped0.sem)
abbrev cCcell (d : Dev nD) (L : grid1.Coords) : GSem nD τ sig := (thr d L, .dma cc1_scoped1.sem)

omit [FloatOps F] in
theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc1_scoped1.sem : SemLoc sig).isScoped .scVector = true; decide⟩⟩⟩)]

omit [FloatOps F] in
/-- The list and the row buffer are among the subcore's own buffers. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The loop's invariant: the shares, the subcore's rows with the first `t` blocks done, the list and the row buffer at
    anything, the three semaphores at zero. -/
def inv (O : CellTallies nD τ sig (HIx 1)) (W : Waits sig (HIx 1)) (t : ℕ) (_ : PUnit) : sProp 𝕄 :=
  iprop(Transfers.MayWaits (thr d L) (default : HIx 1) O
    ∗ ((tK).view.loc (thr d L) ↦{tileShare (cL L) (sL L)} tab d)
    ∗ ((iV).view.loc (thr d L) ↦{tileShare (cL L) (sL L)} idx d)
    ∗ (∃ f, ⌜DoneTo tab idx d L t f⌝ ∗ (oV).view.loc (thr d L) ↦[tileSet (L 0).val (L 1).val]{fullShare} f)
    ∗ (∃ f, (lV).view.loc (thr d L) ↦{fullShare} f)
    ∗ (∃ f, (rV).view.loc (thr d L) ↦{fullShare} f)
    ∗ semVal (cAcell d L) 0 ∗ semVal (cBcell d L) 0 ∗ semVal (cCcell d L) 0
    ∗ ∃ W', ⌜∀ p ∈ W', p ∈ W ∨ p.2 = none⌝ ∗ owes (thr d L) O W')

omit [FloatOps F] in
theorem waits_insert {W W' : Waits sig (HIx 1)} {g : SemLoc sig} (h : ∀ p ∈ W', p ∈ W ∨ p.2 = none) :
    ∀ p ∈ insert (g, (default : HIx 1)) W', p ∈ W ∨ p.2 = none := by
  intro p hp
  rcases Finset.mem_insert.mp hp with hp | hp
  · exact .inr (hp ▸ rfl)
  · exact h p hp

set_option maxHeartbeats 4000000 in
/-- One trip. -/
theorem trip (hok : IdxOK idx) (O : CellTallies nD τ sig (HIx 1)) (W : Waits sig (HIx 1)) (t : Fin k1_t1_loop.trips) :
    inv tab idx d L O W t.val ⟨⟩
      ⊢ wp frame (wpE (defs₀ (F := F)) 𝒱₀ (thr d L) none) Set.univ
          (k1_t1_body L tV (Memref.isWhole_whole _) iV (Memref.isWhole_whole _) oV (Memref.isWhole_whole _)
            lV (Memref.isWhole_whole _) rV (Memref.isWhole_whole _) cc1_scratch2 cc1_scoped0 cc1_scoped1 t ⟨⟩)
          fun _ => inv tab idx d L O W (t.val + 1) ⟨⟩ := by
  unfold inv k1_t1_body
  iintro ⟨#Hmw, Ht, Hi, ⟨%f, %hf, Ho⟩, ⟨%fs, Hl⟩, ⟨%fr, Hr⟩, HsA, HsB, HsC, %W', %hW', HO⟩
  -- the index fetch and its wait
  iapply (Transfers.wp_dmaFromWhole countersEmb 𝒱₀ (thr d L) none (src := iK L t) (default : HIx 1) (lV).view.dmaCredit rfl (by decide) (Finset.subset_univ _)) $$ [Hi Hl HsB]
  · isplitl [Hi]; · iexact Hi
    isplitl [Hl]; · iexact Hl
    iexact HsB
  iintro Hfl
  iapply (Transfers.wp_waitLocalO countersEmb 𝒱₀ (thr d L) none (default : HIx 1) (rfl : (lV).view.dmaCredit = _)) $$ [Hfl HO]
  · isplitl [Hfl]; · iexact Hfl
    isplitl [HO]; · iexact HO
    iapply (Transfers.MayWaits.elim (SemLoc.dma cc1_scoped0.sem)) $$ Hmw
  iintro ⟨⟨Hl, Hi⟩, HsB, HO⟩
  -- the indirect gather over the fetched list and its wait
  have hN : ∀ h : S8192x128.Gathers 0 S512x128, ∑ j, ((rV).slice (S512x128.rowRect h.axis' j) (S512x128.stride_rowRect h.axis' j)).view.dmaCredit
      = (rV).view.dmaCredit := by decide +kernel
  iapply (SparseCore.wp_gatherFromWhole countersEmb 𝒱₀ (thr d L) none (hg := gathers_S8192x128_S512x128) (hsp := Or.inl rfl) (hr := by decide) (default : HIx 1)
      (rV).view.dmaCredit (hN _) (by decide) (rows_mk idx d L hok t fs)) $$ [Ht Hr Hl HsA]
  · isplitl [Ht]; · iexact Ht
    isplitl [Hr]; · iexact Hr
    isplitl [Hl]; · iexact Hl
    iexact HsA
  iintro Hfl
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Ht, Hl⟩, HsA, HO⟩
  -- the block written out and its wait
  iapply (Transfers.wp_dmaFromWhole countersEmb 𝒱₀ (thr d L) none (src := rV) (dst := oK L t) (default : HIx 1) (oK L t).view.dmaCredit rfl
      (show 0 < (oK L t).view.amount (.dma cc1_scoped1.sem) from View.amount_pos _ _ (by decide)) (set_oK_subset L t)) $$ [Hr Ho HsC]
  · isplitl [Hr]; · iexact Hr
    isplitl [Ho]; · iexact Ho
    iexact HsC
  iintro Hfl
  iapply (Transfers.wp_waitLocalO countersEmb 𝒱₀ (thr d L) none (default : HIx 1) (rfl : (oK L t).view.dmaCredit = _)) $$ [Hfl HO]
  · isplitl [Hfl]; · iexact Hfl
    isplitl [HO]; · iexact HO
    iapply (Transfers.MayWaits.elim (SemLoc.dma cc1_scoped1.sem)) $$ Hmw
  iintro ⟨⟨Ho, Hr⟩, HsC, HO⟩
  dsimp only [Prog.bind]
  sl_step
  isplitr; · iexact Hmw
  isplitl [Ht]; · iexact Ht
  isplitl [Hi]; · iexact Hi
  isplitl [Ho]
  · iexists _; isplitr
    swap; · iexact Ho
    ipureintro; exact done_step tab idx d L hok t f hf fs fr
  isplitl [Hl]; · iexists _; iexact Hl
  isplitl [Hr]; · iexists _; iexact Hr
  isplitl [HsA]; · iexact HsA
  isplitl [HsB]; · iexact HsB
  isplitl [HsC]; · iexact HsC
  iexists _; isplitr
  swap; · iexact HO
  ipureintro
  exact waits_insert (waits_insert (waits_insert hW'))

/-- The task on vector subcore `(L 0, L 1)` of device `d`. -/
theorem tile_body (hF : (K (F := F)).Facts) (hok : IdxOK idx) (O : CellTallies nD τ sig (HIx 1)) (W : Waits sig (HIx 1)) (hO : ∀ g, O g none = 0) :
    (iprop(levAts (K (F := F)).L (K (F := F)).lev ∗ emp
        ∗ ((tLoc d ↦{tileShare (cL L) (sL L)} tab d) ∗ (iLoc d ↦{tileShare (cL L) (sL L)} idx d) ∗ oLoc d ↦[tileSet (L 0).val (L 1).val]{fullShare} out d)
        ∗ scopedBufs (thr d L) ∗ scopedSems0 (thr d L) ∗ owes (thr d L) O W) : sProp 𝕄)
      ⊢ wp frame (wpE (defs₀ (F := F)) 𝒱₀ (thr d L) none) Set.univ
          (cc1_k L tV (Memref.isWhole_whole _) iV (Memref.isWhole_whole _) oV (Memref.isWhole_whole _)
            lV (Memref.isWhole_whole _) rV (Memref.isWhole_whole _) cc1_scratch2 cc1_scoped0 cc1_scoped1)
          fun _ => iprop(((tLoc d ↦{tileShare (cL L) (sL L)} tab d) ∗ (iLoc d ↦{tileShare (cL L) (sL L)} idx d)
              ∗ oLoc d ↦[tileSet (L 0).val (L 1).val]{fullShare} gathered (tab d) (idx d))
            ∗ scopedBufs (thr d L) ∗ scopedSems0 (thr d L)
            ∗ ∃ W', ⌜∀ p ∈ W', p ∈ W ∨ p.2 = none⌝ ∗ owes (thr d L) O W') := by
  rw [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hl⟩, ⟨%fr, Hr⟩, Hbufs⟩, ⟨HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv tab idx d L O W) $$ [Hmw Ht Hi Ho Hl Hr HsA HsB HsC HO]
  case region => exact fun t _ => trip tab idx d L hok O W t
  · unfold inv
    isplitl [Hmw]; · iexact Hmw
    isplitl [Ht]; · iexact Ht
    isplitl [Hi]; · iexact Hi
    isplitl [Ho]
    · iexists _; isplitr
      swap; · iexact Ho
      ipureintro; exact done_zero tab idx d L _
    isplitl [Hl]; · iexists _; iexact Hl
    isplitl [Hr]; · iexists _; iexact Hr
    isplitl [HsA]; · iexact HsA
    isplitl [HsB]; · iexact HsB
    isplitl [HsC]; · iexact HsC
    iexists W; isplitr
    · ipureintro; exact fun p hp => .inl hp
    · iexact HO
  iintro %_ HI
  unfold inv
  icases HI with ⟨-, Ht, Hi, ⟨%f, %hf, Ho⟩, Hl, Hr, HsA, HsB, HsC, HW⟩
  have hall := done_all tab idx d L f (by rw [show (8 : ℕ) = k1_t1_loop.trips from by decide]; exact hf)
  ihave Ho' := (Entails.of_eq (show ((oV).view.loc (thr d L) ↦[tileSet (L 0).val (L 1).val]{fullShare} f : sProp 𝕄)
      = oLoc d ↦[tileSet (L 0).val (L 1).val]{fullShare} gathered (tab d) (idx d) from pointsTo_congr hall)) $$ Ho
  sl_step
  isplitl [Ht Hi Ho']
  · isplitl [Ht]; · iexact Ht
    isplitl [Hi]; · iexact Hi
    iexact Ho'
  isplitl [Hl Hr Hbufs]
  · isplitl [Hl]; · iexact Hl
    isplitl [Hr]; · iexact Hr
    iexact Hbufs
  isplitl [HsA HsB HsC Hsems]
  · isplitl [HsA]; · iexact HsA
    isplitl [HsB]; · iexact HsB
    isplitl [HsC]; · iexact HsC
    iexact Hsems
  iexact HW

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1_k (coordsV c s)
          tV (Memref.isWhole_whole _) iV (Memref.isWhole_whole _) oV (Memref.isWhole_whole _)
          lV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hok : IdxOK idx) : (K (F := F)).TileObl (D (F := F)) 𝒱 (P tab idx out) v₀ 0 := by
  intro d c i O W hO _ _
  simp only [show (P tab idx out).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx out d (coordsV ⟨_, hci.1⟩ ⟨_, hci.2⟩) hF hok O W hO).trans (wp_mono frame _ _ fun _ => obl_post)

end Tile

end Cert.Proof.Call

end
-- ==== Proof.Regions.lean ====
/-
  The two TensorCore calls as regions of the host program: what each is entered from, every unscoped array at some
  contents, and what it leaves, the same with its result arrays written block by block.
-/
module

public import proofs.«01_k».proof.Proof.Bodies
public import proofs.«01_k».proof.Proof.CallBody
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.FrameSuffix

@[expose] public section

set_option maxRecDepth 16384

noncomputable section

namespace Cert.Proof.Whole

open Idealize.ShloMosaic Idealize.ShloMosaic.TcCoe
open Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.Call (UU K)

variable {F : FTy → Type} [FloatOps F]

local notation "𝕄" => MT nD τ sig (HIx 1) (Elt F) ℕ UU ℕ

/-- The contents of a core's arrays. -/
abbrev Arrays (F : FTy → Type) : Type := (c : Dev nD) → (b : Ref sig .tc) → Buf (Elt F) ((c : Thread nD τ).loc b)

/-- What the core may have waited for: the stages of its handshakes up to `h`. -/
def waited (c : Dev nD) (h : ℕ) : Set (SemLoc sig × HIx 1) :=
  {p | (K (F := F)).lev ((SparseCore.T c : Thread nD τ), p.1) p.2 ≤ h}

variable (V : Arrays F) (n h : ℕ)

/-- What the first call reads through its window `w` at point `t`. -/
abbrev in0 (c : Dev nD) (w : Fin 8) (t : Fin cfg0.N) := ((cfg0.win w).blk t).view.read (Elt F) (V c (Pipeline.arrRef spec0 w))

/-- What the third call reads through its window `w` at point `t`. -/
abbrev in2 (c : Dev nD) (w : Fin 5) (t : Fin cfg2.N) := ((cfg2.win w).blk t).view.read (Elt F) (V c (Pipeline.arrRef spec2 w))

/-- The first call's proof data. -/
def dat0 (c : Dev nD) : Dat τ (Elt F) (HIx 1) ℕ UU ℕ cfg0 c where
  A w := V c (Pipeline.arrRef spec0 w)
  after w t := match w with
    | ⟨0, _⟩ => in0 V c 0 t
    | ⟨1, _⟩ => in0 V c 1 t
    | ⟨2, _⟩ => in0 V c 2 t
    | ⟨3, _⟩ => in0 V c 3 t
    | ⟨4, _⟩ => in0 V c 4 t
    | ⟨5, _⟩ => blockI (grid0.coords t) (in0 V c 0 t) (in0 V c 1 t)
    | ⟨6, _⟩ => blockU (in0 V c 1 t) (in0 V c 2 t) (in0 V c 4 t)
    | ⟨7, _⟩ => blockV (in0 V c 1 t) (in0 V c 3 t)
  Φ _ := Pipeline.scopedRest (Ix := HIx 1) (Name := ℕ) (U := UU) (Lvl := ℕ) (Val := Elt F) spec0 c
  q w := Pipeline.shareOf spec0 w
  owed _ := (K (F := F)).Otc c n
  recorded _ := waited (F := F) c h

/-- The third call's proof data. -/
def dat2 (c : Dev nD) : Dat τ (Elt F) (HIx 1) ℕ UU ℕ cfg2 c where
  A w := V c (Pipeline.arrRef spec2 w)
  after w t := match w with
    | ⟨0, _⟩ => in2 V c 0 t
    | ⟨1, _⟩ => in2 V c 1 t
    | ⟨2, _⟩ => in2 V c 2 t
    | ⟨3, _⟩ => in2 V c 3 t
    | ⟨4, _⟩ => third (in2 V c 0 t) (in2 V c 1 t) (in2 V c 2 t) (in2 V c 3 t)
  Φ _ := Pipeline.scopedRest (Ix := HIx 1) (Name := ℕ) (U := UU) (Lvl := ℕ) (Val := Elt F) spec2 c
  q _ := fullShare
  owed _ := (K (F := F)).Otc c n
  recorded _ := waited (F := F) c h

theorem before0_0 (c : Dev nD) (t : Fin cfg0.N) (d) : (dat0 V n h c).before 0 t d = in0 V c 0 t :=
  (dat0 V n h c).before_in_eq_fetched 0 rfl (fun _ => rfl) (fun _ _ _ => rfl) (fun _ => rfl) t d
theorem before0_1 (c : Dev nD) (t : Fin cfg0.N) (d) : (dat0 V n h c).before 1 t d = in0 V c 1 t :=
  (dat0 V n h c).before_in_eq_fetched 1 rfl (fun _ => rfl) (fun _ _ _ => rfl) (fun _ => rfl) t d
theorem before0_2 (c : Dev nD) (t : Fin cfg0.N) (d) : (dat0 V n h c).before 2 t d = in0 V c 2 t :=
  (dat0 V n h c).before_in_eq_fetched 2 rfl (fun _ => rfl) (fun _ _ _ => rfl) (fun _ => rfl) t d
theorem before0_3 (c : Dev nD) (t : Fin cfg0.N) (d) : (dat0 V n h c).before 3 t d = in0 V c 3 t :=
  (dat0 V n h c).before_in_eq_fetched 3 rfl (fun _ => rfl) (fun _ _ _ => rfl) (fun _ => rfl) t d
theorem before0_4 (c : Dev nD) (t : Fin cfg0.N) (d) : (dat0 V n h c).before 4 t d = in0 V c 4 t :=
  (dat0 V n h c).before_in_eq_fetched 4 rfl (fun _ => rfl) (fun _ _ _ => rfl) (fun _ => rfl) t d
theorem before2_0 (c : Dev nD) (t : Fin cfg2.N) (d) : (dat2 V n h c).before 0 t d = in2 V c 0 t :=
  (dat2 V n h c).before_in_eq_fetched 0 rfl (fun _ => rfl) (fun _ _ _ => rfl) (fun _ => rfl) t d
theorem before2_1 (c : Dev nD) (t : Fin cfg2.N) (d) : (dat2 V n h c).before 1 t d = in2 V c 1 t :=
  (dat2 V n h c).before_in_eq_fetched 1 rfl (fun _ => rfl) (fun _ _ _ => rfl) (fun _ => rfl) t d
theorem before2_2 (c : Dev nD) (t : Fin cfg2.N) (d) : (dat2 V n h c).before 2 t d = in2 V c 2 t :=
  (dat2 V n h c).before_in_eq_fetched 2 rfl (fun _ => rfl) (fun _ _ _ => rfl) (fun _ => rfl) t d
theorem before2_3 (c : Dev nD) (t : Fin cfg2.N) (d) : (dat2 V n h c).before 3 t d = in2 V c 3 t :=
  (dat2 V n h c).before_in_eq_fetched 3 rfl (fun _ => rfl) (fun _ _ _ => rfl) (fun _ => rfl) t d

theorem after2_4 (c : Dev nD) (t : Fin cfg2.N) :
    (dat2 V n h c).after 4 t = third (in2 V c 0 t) (in2 V c 1 t) (in2 V c 2 t) (in2 V c 3 t) := by
  dsimp only [dat2]

abbrev 𝒱₀ : Variants := Variants.none

theorem body0 (c : Dev nD) : BodyObligation (dat0 V n h c) (defs₀ (F := F)) 𝒱₀ (none : HIx 1) Set.univ := fun t => by
  rw [bigSep_W0, bigSep_W0]
  rw [show (dat0 V n h c).Φ t.castSucc = (dat0 V n h c).Φ t.succ from rfl,
    show (dat0 V n h c).owesAt none t.succ = (dat0 V n h c).owesAt none t.castSucc from rfl]
  simp only [before0_0, before0_1, before0_2, before0_3, before0_4]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (stage1_run (F := F) (defs := defs₀ (F := F)) 𝒱₀ c none Set.univ (grid0.coords t) (st0_0 t) (hstage0_0 _) (st0_1 t) (hstage0_1 _)
    (st0_2 t) (hstage0_2 _) (st0_3 t) (hstage0_3 _) (st0_4 t) (hstage0_4 _) (st0_5 t) (hstage0_5 _) (st0_6 t) (hstage0_6 _) (st0_7 t) (hstage0_7 _)
    (in0 V c 0 t) (in0 V c 1 t) (in0 V c 2 t) (in0 V c 3 t) (in0 V c 4 t) ((dat0 V n h c).before 5 t d5) ((dat0 V n h c).before 6 t d6) ((dat0 V n h c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body2 (c : Dev nD) : BodyObligation (dat2 V n h c) (defs₀ (F := F)) 𝒱₀ (none : HIx 1) Set.univ := fun t => by
  rw [bigSep_W2, bigSep_W2]
  rw [show (dat2 V n h c).Φ t.castSucc = (dat2 V n h c).Φ t.succ from rfl,
    show (dat2 V n h c).owesAt none t.succ = (dat2 V n h c).owesAt none t.castSucc from rfl, after2_4]
  simp only [before2_0, before2_1, before2_2, before2_3]
  iintro ⟨HΦ, Howes, ⟨%d0, H0⟩, ⟨%d1, H1⟩, ⟨%d2, H2⟩, ⟨%d3, H3⟩, ⟨%d4, H4⟩⟩
  iapply (stage3_run (F := F) (defs := defs₀ (F := F)) 𝒱₀ c none Set.univ (grid2.coords t) (st2_0 t) (hstage2_0 _) (st2_1 t) (hstage2_1 _)
    (st2_2 t) (hstage2_2 _) (st2_3 t) (hstage2_3 _) (st2_4 t) (hstage2_4 _)
    (in2 V c 0 t) (in2 V c 1 t) (in2 V c 2 t) (in2 V c 3 t) ((dat2 V n h c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The regions -/

/-- Neither call reads a table at run time. -/
abbrev adm : (p : Fin 2) → (pcfgs (F := F) p).Adm := fun p => (cfgs p).toPCfg_adm

/-- Both calls' proof data: the first before the SparseCores' call, the third after it. -/
def pdats (V₀ V₂ : Arrays F) : (p : Fin 2) → (c : Dev nD) → Dat τ (Elt F) (HIx 1) ℕ UU ℕ (Pipeline.pin (pcfgs (F := F)) adm p) c
  | ⟨0, _⟩ => fun c => dat0 V₀ 0 0 c
  | ⟨1, _⟩ => fun c => dat2 V₂ 1 8 c

/-- What the core owes its SparseCores is owed at a stage of a handshake. -/
theorem owed_above (c : Dev nD) (n : ℕ) (g : GSem nD τ sig) (i : HIx 1) (hg : 0 < (K (F := F)).Otc c n g i) :
    0 < (K (F := F)).lev g i := by
  match i with
  | some q => exact (K (F := F)).lev_some_pos g q
  | none =>
    refine absurd hg (Nat.not_lt.mpr (Nat.le_of_eq ?_))
    unfold SparseCore.Cfg.Otc
    rw [Finset.sum_apply, Finsupp.finset_sum_apply]
    refine Finset.sum_eq_zero fun q _ => ?_
    by_cases hq : n ≤ q.val
    · rw [if_pos hq, Finset.sum_apply, Finsupp.finset_sum_apply]
      refine Finset.sum_eq_zero fun k _ => ?_
      rw [tallyAt_apply]
      exact if_neg fun e => by cases e.2
    · rw [if_neg hq]; rfl

theorem within_waited {cfg : Cfg sig Λ₀} (c : Dev nD) (n : ℕ) (W : Waits sig (HIx 1)) {S : Set (SemLoc sig × HIx 1)}
    (hS : S = waited (F := F) c n ∪ cfg.waitPairs none) (hW : (↑W : Set _) ⊆ S) : (K (F := F)).WBelow (SparseCore.T c) W n := by
  intro p hp
  rcases hS ▸ hW hp with h | ⟨w, s, h⟩
  · exact h
  · rw [h]; exact Nat.zero_le _

variable (V₀ V₂ : Arrays F)

set_option backward.isDefEq.respectTransparency.types false in
/-- The first call as a region: from every unscoped array at `V₀` to the same with the call's arrays as the blocks leave them. -/
def reg0 (Vp : Arrays F) (hF : ∀ c w, (dat0 V₀ 0 0 c).arrAt w cfg0.N = Vp c (Pipeline.arrRef spec0 w))
    (hr : ∀ c b, b ∉ Finset.univ.image (Pipeline.arrRef spec0) → Vp c b = V₀ c b) :
    Pipeline.RegionSeg (pcfgs (F := F)) adm (pdats V₀ V₂) (none : HIx 1) defs₀ 𝒱₀ (K (F := F)).L (K (F := F)).lev 0 where
  win := launch₀0.win
  block_pos := launch₀0.block_pos
  stage_whole := launch₀0.stage_whole
  K := PEmpty
  osem k := k.elim
  ho := Pipeline.OwnSemFacts.none _
  hbody c := (body0 V₀ 0 0 c).loose
  hwaits c := Pipeline.cellsWaits_of_cut _ _ _ 0 c 0 ((K (F := F)).Otc c 0) (fun _ => rfl) (fun _ _ => Finset.mem_univ _)
    (fun _ _ => le_of_eq rfl) (fun g i hg => ⟨Finset.mem_univ _, owed_above c 0 g i hg⟩)
  pre c := iprop(unscopedBufs c (V₀ c) ∗ ∃ W, ⌜(K (F := F)).WBelow (SparseCore.T c) W 0⌝ ∗ owes (c : Thread nD τ) ((K (F := F)).Otc c 0) W)
  post c := iprop(unscopedBufs c (Vp c) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V₀ c)
  hentry c := by
    rw [Pipeline.ownSems0_none]
    have hsplit := Pipeline.arrays_of_unscopedBufs_shared (p := 0) (pcfgs (F := F)) adm (pdats V₀ V₂) launch₀0.win sharedIn0 launch₀0.arr_whole c
      (fun _ _ => rfl) (V₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V₀ V₂ 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V₀ V₂ 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays_shared (p := 0) (pcfgs (F := F)) adm (Ix := HIx 1) (Name := ℕ) (U := UU) (Lvl := ℕ) launch₀0.win sharedIn0 launch₀0.arr_whole c
      (pdats V₀ V₂) (fun _ _ => rfl) (V₀ c) (Vp c) ((pdats V₀ V₂ 0 c).arrAt · cfg0.N)
      (hF c) (hr c)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact within_waited (cfg := cfg0) c 0 W rfl hW
    iexact HO

set_option backward.isDefEq.respectTransparency.types false in
/-- The third call as a region: from every unscoped array at `V₂` to the same with the call's arrays as the blocks leave them. -/
def reg2 (Vp : Arrays F) (hF : ∀ c w, (dat2 V₂ 1 8 c).arrAt w cfg2.N = Vp c (Pipeline.arrRef spec2 w))
    (hr : ∀ c b, b ∉ Finset.univ.image (Pipeline.arrRef spec2) → Vp c b = V₂ c b) :
    Pipeline.RegionSeg (pcfgs (F := F)) adm (pdats V₀ V₂) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V₂ 1 8 c).loose
  hwaits c := Pipeline.cellsWaits_of_cut _ _ _ 1 c 0 ((K (F := F)).Otc c 1) (fun _ => rfl) (fun _ _ => Finset.mem_univ _)
    (fun _ _ => le_of_eq rfl) (fun g i hg => ⟨Finset.mem_univ _, owed_above c 1 g i hg⟩)
  pre c := iprop(unscopedBufs c (V₂ c) ∗ ∃ W, ⌜(K (F := F)).WBelow (SparseCore.T c) W 8⌝ ∗ owes (c : Thread nD τ) ((K (F := F)).Otc c 1) W)
  post c := iprop(unscopedBufs c (Vp c) ∗ ∃ W, ⌜(K (F := F)).WBelow (SparseCore.T c) W 8⌝ ∗ owes (c : Thread nD τ) ((K (F := F)).Otc c 1) W)
  X _ := BI.emp
  Y _ := BI.emp
  Z c := Pipeline.unscopedRest (Ix := HIx 1) (Name := ℕ) (U := UU) (Lvl := ℕ) spec2 c (V₂ c)
  hentry c := by
    rw [Pipeline.ownSems0_none]
    have hsplit := Pipeline.arrays_of_unscopedBufs (p := 1) (pcfgs (F := F)) adm (pdats V₀ V₂) launch2.win launch2.arr_whole c
      ((pdats V₀ V₂ 1 c).share_full fun _ => rfl) (V₂ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V₀ V₂ 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V₀ V₂ 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V₀ V₂) ((pdats V₀ V₂ 1 c).share_full fun _ => rfl) (V₂ c) (Vp c) ((pdats V₀ V₂ 1 c).arrAt · cfg2.N)
      (hF c) (hr c)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact within_waited (cfg := cfg2) c 8 W rfl hW
    iexact HO

end Cert.Proof.Whole
-- ==== Proof.CallSplit.lean ====
/-
  The row gather's holdings inside the whole program: what the call is handed split between the SparseCores and their
  subcores, and joined again.
-/
module

public import proofs.«01_k».proof.Proof.CallBody

@[expose] public section

set_option maxRecDepth 16384

noncomputable section

namespace Cert.Proof.Call

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tab : (d : Dev nD) → Buf (Elt F) (tLoc d)) (idx : (d : Dev nD) → Buf (Elt F) (iLoc d)) (out : (d : Dev nD) → Buf (Elt F) (oLoc d))

/-! ## The rows of the result, split -/

theorem tiles_disjoint (c : Fin 2) : ∀ i ∈ (Finset.univ : Finset (Fin 16)), ∀ j ∈ (Finset.univ : Finset (Fin 16)), i ≠ j →
    Disjoint (tileSet c.val i.val) (tileSet c.val j.val) := by
  intro i _ j _ h
  refine Finset.disjoint_left.mpr fun x hx hy => h (Fin.ext ?_)
  simp only [tileSet, Finset.mem_filter, Finset.mem_univ, true_and] at hx hy
  omega

theorem tiles_cover (c : Fin 2) : ((Finset.univ : Finset (Fin 16)).biUnion fun i => tileSet c.val i.val) = coreSet c.val := by
  ext x
  have hx : (x 0).val < 131072 := (x 0).isLt
  have hc : c.val < 2 := c.isLt
  simp only [tileSet, coreSet, Finset.mem_biUnion, Finset.mem_filter, Finset.mem_univ, true_and]
  constructor
  · rintro ⟨i, hi⟩; omega
  · intro h; exact ⟨⟨(x 0).val / 4096 / 2, by omega⟩, by show _ = 2 * ((x 0).val / 4096 / 2) + c.val; omega⟩

theorem cores_disjoint : ∀ i ∈ (Finset.univ : Finset (Fin 2)), ∀ j ∈ (Finset.univ : Finset (Fin 2)), i ≠ j →
    Disjoint (coreSet i.val) (coreSet j.val) := by
  intro i _ j _ h
  refine Finset.disjoint_left.mpr fun x hx hy => h (Fin.ext ?_)
  simp only [coreSet, Finset.mem_filter, Finset.mem_univ, true_and] at hx hy
  omega

theorem cores_cover : ((Finset.univ : Finset (Fin 2)).biUnion fun c => coreSet c.val) = Finset.univ := by
  ext x
  simp only [coreSet, Finset.mem_biUnion, Finset.mem_filter, Finset.mem_univ, true_and, iff_true]
  exact ⟨⟨(x 0).val / 4096 % 2, by omega⟩, rfl⟩

omit [FloatOps F] in
theorem out_tiles (d : Dev nD) (c : Fin 2) (f : Buf (Elt F) (oLoc d)) :
    (oLoc d ↦[coreSet c.val]{fullShare} f : sProp 𝕄) = bigSep Finset.univ fun i : Fin 16 => oLoc d ↦[tileSet c.val i.val]{fullShare} f := by
  rw [← pointsTo_biUnion Finset.univ (ℓ := oLoc d) (fun i : Fin 16 => tileSet c.val i.val) (tiles_disjoint c), tiles_cover]

omit [FloatOps F] in
theorem out_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) cores_disjoint, cores_cover]

/-- A core's holdings are its tasks', whatever the result's rows hold. -/
theorem core_tiles (d : Dev nD) (c : Fin 2) (f : Buf (Elt F) (oLoc d)) :
    (iprop((tLoc d ↦{coreShare c} tab d) ∗ (iLoc d ↦{coreShare c} idx d) ∗ oLoc d ↦[coreSet c.val]{fullShare} f) : sProp 𝕄)
      = bigSep Finset.univ fun i : Fin 16 =>
          iprop((tLoc d ↦{tileShare c i} tab d) ∗ (iLoc d ↦{tileShare c i} idx d) ∗ oLoc d ↦[tileSet c.val i.val]{fullShare} f) := by
  rw [bigSep_sep', bigSep_sep', out_tiles, pointsTo_piecesOf Finset.univ (tab d) (o := 16) (by decide) (coreShare c),
    pointsTo_piecesOf Finset.univ (idx d) (o := 16) (by decide) (coreShare c)]

/-- The call's holdings are its cores'. -/
theorem call_cores (d : Dev nD) (f : Buf (Elt F) (oLoc d)) :
    (iprop((tLoc d ↦{fullShare} tab d) ∗ (iLoc d ↦{fullShare} idx d) ∗ oLoc d ↦{fullShare} f) : sProp 𝕄)
      = bigSep Finset.univ fun c : Fin 2 =>
          iprop((tLoc d ↦{coreShare c} tab d) ∗ (iLoc d ↦{coreShare c} idx d) ∗ oLoc d ↦[coreSet c.val]{fullShare} f) := by
  rw [bigSep_sep', bigSep_sep', out_cores, pointsTo_piecesOf Finset.univ (tab d) (o := 2) (by decide) fullShare,
    pointsTo_piecesOf Finset.univ (idx d) (o := 2) (by decide) fullShare]

theorem vecSplit : (K (F := F)).VecSplit' (P tab idx out) 0 := by
  intro d c
  show (iprop((tLoc d ↦{coreShare c} tab d) ∗ (iLoc d ↦{coreShare c} idx d) ∗ oLoc d ↦[coreSet c.val]{fullShare} out d) : sProp 𝕄)
    ⊢ |={Set.univ}=> iprop(
      (bigSep Finset.univ fun i : Fin 16 =>
          iprop((tLoc d ↦{tileShare c i} tab d) ∗ (iLoc d ↦{tileShare c i} idx d) ∗ oLoc d ↦[tileSet c.val i.val]{fullShare} out d))
      ∗ ((bigSep Finset.univ fun i : Fin 16 =>
          iprop((tLoc d ↦{tileShare c i} tab d) ∗ (iLoc d ↦{tileShare c i} idx d) ∗ oLoc d ↦[tileSet c.val i.val]{fullShare} gathered (tab d) (idx d)))
          -∗ iprop((tLoc d ↦{coreShare c} tab d) ∗ (iLoc d ↦{coreShare c} idx d) ∗ oLoc d ↦[coreSet c.val]{fullShare} gathered (tab d) (idx d))))
  rw [core_tiles tab idx d c (out d), core_tiles tab idx d c (gathered (tab d) (idx d))]
  iintro H; imodintro
  isplitl [H]; · iexact H
  iintro H; iexact H

/-! ## What the call is handed and hands back -/

theorem st0_eq (d : Dev nD) : (bigSep Finset.univ fun c : Fin ((K (F := F)).nCore 0) => (P tab idx out).st 0 d c)
    = (iprop((tLoc d ↦{fullShare} tab d) ∗ (iLoc d ↦{fullShare} idx d) ∗ oLoc d ↦{fullShare} out d) : sProp 𝕄) :=
  (call_cores tab idx d (out d)).symm
theorem dn0_eq (d : Dev nD) : (bigSep Finset.univ fun c : Fin ((K (F := F)).nCore 0) => (P tab idx out).dn 0 d c)
    = (iprop((tLoc d ↦{fullShare} tab d) ∗ (iLoc d ↦{fullShare} idx d) ∗ oLoc d ↦{fullShare} gathered (tab d) (idx d)) : sProp 𝕄) :=
  (call_cores tab idx d (gathered (tab d) (idx d))).symm

end Cert.Proof.Call

end
-- ==== Proof.WholeRun.lean ====
/-
  The whole program's run: the host operations, the two TensorCore calls as regions and the SparseCores' call between
  them, from any launch memory whose index words, as the first call writes them, name rows of the table.
-/
module

public import proofs.«01_k».proof.Proof.Regions
public import proofs.«01_k».proof.Proof.CallSplit

@[expose] public section

set_option maxRecDepth 16384

noncomputable section

namespace Cert.Proof.Whole

open Idealize.ShloMosaic Idealize.ShloMosaic.TcCoe
open Cert.KernelIdeal Cert.KernelIdeal.Gen
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)
open Cert.Proof.Call (UU UH EH EP K D 𝒱 v₀ tLoc iLoc oLoc gathered IdxOK facts P tileObl vecSplit st0_eq dn0_eq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the arrays, step by step -/

abbrev Vals (F : FTy → Type) : Type := Valuation τ sig (Elt F)

/-- The arrays of every core at a valuation. -/
abbrev atRefs (V : Dev nD → Vals F) : Arrays F := fun c b => V c (Proc.devRef .tc b)

/-- The operations before the first call. -/
def ops₁ : List (HloOp τ sig (Elt F)) :=
  [StableHlo.reshape main_arg0 main_v0 (rfl : (.f32 : EltTy) = .f32) shapeCasts_S1x8192x64_S8192x64,
   StableHlo.unary main_arg1 main_v1 ((extractStridedSlice S64x64 ![0, 0] · slices_S64x128_S64x64_0_0) : (⟨S64x128, .f32⟩ : BufTy).Contents (Elt F) → (⟨S64x64, .f32⟩ : BufTy).Contents (Elt F)),
   StableHlo.unary main_arg1 main_v2 ((extractStridedSlice S64x64 ![0, 64] · slices_S64x128_S64x64_0_64) : (⟨S64x128, .f32⟩ : BufTy).Contents (Elt F) → (⟨S64x64, .f32⟩ : BufTy).Contents (Elt F)),
   StableHlo.binary main_v1 main_v2 main_v3 (subf : (⟨S64x64, .f32⟩ : BufTy).Contents (Elt F) → (⟨S64x64, .f32⟩ : BufTy).Contents (Elt F) → (⟨S64x64, .f32⟩ : BufTy).Contents (Elt F)),
   StableHlo.unary main_v3 main_v4 ((transpose S64x64 [1, 0] · transposes_S64x64_S64x64_1_0) : (⟨S64x64, .f32⟩ : BufTy).Contents (Elt F) → (⟨S64x64, .f32⟩ : BufTy).Contents (Elt F)),
   StableHlo.unary main_v2 main_v5 ((transpose S64x64 [1, 0] · transposes_S64x64_S64x64_1_0) : (⟨S64x64, .f32⟩ : BufTy).Contents (Elt F) → (⟨S64x64, .f32⟩ : BufTy).Contents (Elt F)),
   StableHlo.reshape main_arg2 main_v6 (rfl : (.f32 : EltTy) = .f32) shapeCasts_S64_S1x64,
   StableHlo.unary main_arg3 main_v7 ((transpose S64x64 [1, 0] · transposes_S64x64_S64x64_1_0) : (⟨S64x64, .f32⟩ : BufTy).Contents (Elt F) → (⟨S64x64, .f32⟩ : BufTy).Contents (Elt F)),
   StableHlo.reshape main_arg4 main_v8 (rfl : (.f32 : EltTy) = .f32) shapeCasts_S64_S1x64]

/-- The operation between the first call and the SparseCores' call, the one after it, and the last. -/
def opIdx : HloOp τ sig (Elt F) := StableHlo.reshape main_v9_0 main_v10 (rfl : (.i32 : EltTy) = .i32) shapeCasts_S16x8192_S131072
def opRows : HloOp τ sig (Elt F) := StableHlo.reshape main_v11 main_v12 (rfl : (.f32 : EltTy) = .f32) shapeCasts_S131072x128_S16x8192x128
def opOut : HloOp τ sig (Elt F) := StableHlo.reshape main_v13 main_v14 (rfl : (.f32 : EltTy) = .f32) shapeCasts_S8192x64_S1x8192x64

def W₀ (d : Dev nD) : Vals F := fun b => m (d, b)
def W₁ (d : Dev nD) : Vals F := StableHlo.after ops₁ (W₀ m d)
def W₂ (d : Dev nD) : Vals F := Pipeline.withArrays spec0 d (W₁ m d) ((dat0 (atRefs (W₁ m)) 0 0 d).arrAt · cfg0.N)
def W₃ (d : Dev nD) : Vals F := opIdx.result (W₂ m d)
def W₄ (d : Dev nD) : Vals F :=
  Function.update (W₃ m d) (Proc.devRef .tc main_v11) (gathered (W₃ m d (Proc.devRef .tc main_v9_2)) (W₃ m d (Proc.devRef .tc main_v10)))
def W₅ (d : Dev nD) : Vals F := opRows.result (W₄ m d)
def W₆ (d : Dev nD) : Vals F := Pipeline.withArrays spec2 d (W₅ m d) ((dat2 (atRefs (W₅ m)) 1 8 d).arrAt · cfg2.N)
def W₇ (d : Dev nD) : Vals F := opOut.result (W₆ m d)

/-! ## The two regions at those contents -/

theorem arr0_out (c : Dev nD) (w : Fin 8) :
    (dat0 (atRefs (W₁ m)) 0 0 c).arrAt w cfg0.N = atRefs (W₂ m) c (Pipeline.arrRef spec0 w) := by
  refine (Pipeline.withArrays_arr_shared spec0 c (W₁ m c) ((dat0 (atRefs (W₁ m)) 0 0 c).arrAt · cfg0.N) (fun w w' hne e => ?_) w).symm
  have hin : (cfg0.win w).isOut = false := by
    revert w w'; decide
  exact (dat0 (atRefs (W₁ m)) 0 0 c).arrAt_in w hin _

theorem rest0 (c : Dev nD) (b : Ref sig .tc) (hb : b ∉ Finset.univ.image (Pipeline.arrRef spec0)) :
    atRefs (W₂ m) c b = atRefs (W₁ m) c b :=
  Pipeline.withArrays_of_ne spec0 c (W₁ m c) _ b fun w e => hb (Finset.mem_image.mpr ⟨w, Finset.mem_univ _, e⟩)

theorem arr2_out (c : Dev nD) (w : Fin 5) :
    (dat2 (atRefs (W₅ m)) 1 8 c).arrAt w cfg2.N = atRefs (W₆ m) c (Pipeline.arrRef spec2 w) :=
  (Pipeline.withArrays_arr spec2 launch2.win.arr_inj c (W₅ m c) ((dat2 (atRefs (W₅ m)) 1 8 c).arrAt · cfg2.N) w).symm

theorem rest2 (c : Dev nD) (b : Ref sig .tc) (hb : b ∉ Finset.univ.image (Pipeline.arrRef spec2)) :
    atRefs (W₆ m) c b = atRefs (W₅ m) c b :=
  Pipeline.withArrays_of_ne spec2 c (W₅ m c) _ b fun w e => hb (Finset.mem_image.mpr ⟨w, Finset.mem_univ _, e⟩)

abbrev R0 := reg0 (atRefs (W₁ m)) (atRefs (W₅ m)) (atRefs (W₂ m)) (arr0_out m) (rest0 m)
abbrev R2 := reg2 (atRefs (W₁ m)) (atRefs (W₅ m)) (atRefs (W₆ m)) (arr2_out m) (rest2 m)

/-- A region inside the host program: from what its record is entered from and its cells' ghost state. -/
theorem region_run [∀ e, Nonempty (Elt F e)] (V₀ V₂ : Arrays F) (p : Fin 2)
    (R : Pipeline.RegionSeg (pcfgs (F := F)) adm (pdats V₀ V₂) (none : HIx 1) defs₀ 𝒱₀ (K (F := F)).L (K (F := F)).lev p) (d : Dev nD)
    (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none
    (.op (.customCall (Pipeline.entry p) ()) .ret) Q)
  have h := R.wp pcfgs adm (pdats V₀ V₂) (none : HIx 1) cellOf_inj EP defs₀ 𝒱₀ (K (F := F)).L (K (F := F)).lev d none (fun u h => nomatch h) .ret Q
  refine BIBase.Entails.trans ?_ h
  iintro ⟨Hk, H⟩
  isplitl [Hk]
  · iintro H'
    iapply (le_wp_ret _ _ _ _ _)
    iapply Hk; iexact H'
  iexact H

/-! ## The launch element of the ghost state -/

/-- The staging cells' rounds of both gridded calls. -/
abbrev gridCells : UR sig nD τ :=
  initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (gridCells (F := F), 1))

/-- What a core is dealt for its two gridded calls. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

omit [FloatOps F] in
theorem none_held {I : Type} (s : Finset I) : (bigSep s fun _ => iprop(emp)) = (iprop(emp) : sProp 𝕄) := bigSep_emp_const s

theorem hu₀ (tab : (d : Dev nD) → Buf (Elt F) (tLoc d)) (idx : (d : Dev nD) → Buf (Elt F) (iLoc d)) (out : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tab idx out).x q thr) := by
  unfold u₀
  iintro Hu
  ihave H := (ownU_pair (initOf (K (F := F)).hsCells (K (F := F)).hsToks) (gridCells (F := F), (1 : Counters))) $$ Hu
  icases H with ⟨HH, HR⟩
  ihave H := (own_pair_emb (embR : Emb (UR sig nD τ × Counters) 𝕄) (gridCells (F := F)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) tab idx out).x q thr) = bigSep Finset.univ fun _ => iprop(emp) from
    bigSep_congr fun _ _ => bigSep_univ_of_subsingleton (0 : Fin 1), none_held]
  iempintro

/-! ## @main on the TensorCore -/

/-- The references of the arrays outside every kernel. -/
abbrev refs : Finset (DevRef τ sig) := Pipeline.ucRefs τ sig

omit [FloatOps F] in
theorem held_refs (d : Dev nD) (V : Vals F) :
    (unscopedBufs d (fun b => V (Proc.devRef .tc b)) : sProp 𝕄) = StableHlo.held (d.tc : Thread nD τ) refs V := by
  unfold unscopedBufs StableHlo.held refs Pipeline.ucRefs StableHlo.tcRefs
  rw [Finset.filter_map, bigSep_map]; rfl

/-- The arrays of the SparseCores' call. -/
abbrev callRefs : Finset (DevRef τ sig) := {Proc.devRef .tc main_v9_2, Proc.devRef .tc main_v10, Proc.devRef .tc main_v11}

omit [FloatOps F] in
theorem held_call (d : Dev nD) (V : Vals F) :
    (StableHlo.held (d.tc : Thread nD τ) callRefs V : sProp 𝕄)
      = iprop((tLoc d ↦{fullShare} V (Proc.devRef .tc main_v9_2)) ∗ (iLoc d ↦{fullShare} V (Proc.devRef .tc main_v10))
          ∗ oLoc d ↦{fullShare} V (Proc.devRef .tc main_v11)) := by
  unfold StableHlo.held callRefs
  rw [SparseCore.bigSep_insert' (by decide), SparseCore.bigSep_insert' (by decide), bigSep_singleton]

abbrev cTab (d : Dev nD) : Buf (Elt F) (tLoc d) := W₃ m d (Proc.devRef .tc main_v9_2)
abbrev cIdx (d : Dev nD) : Buf (Elt F) (iLoc d) := W₃ m d (Proc.devRef .tc main_v10)
abbrev cOut (d : Dev nD) : Buf (Elt F) (oLoc d) := W₃ m d (Proc.devRef .tc main_v11)

/-- The call's arrays before it, and the rest; the same after it. -/
theorem held_before (d : Dev nD) : (StableHlo.held (d.tc : Thread nD τ) refs (StableHlo.after [opIdx] (W₂ m d)) : sProp 𝕄)
    = iprop(((tLoc d ↦{fullShare} cTab m d) ∗ (iLoc d ↦{fullShare} cIdx m d) ∗ oLoc d ↦{fullShare} cOut m d)
        ∗ StableHlo.held (d.tc : Thread nD τ) (refs \ callRefs) (W₃ m d)) := by
  rw [show StableHlo.after [opIdx] (W₂ m d) = W₃ m d from rfl,
    StableHlo.held_sub_split (d.tc : Thread nD τ) (show callRefs ⊆ refs by decide) (W₃ m d), held_call]
theorem held_after (d : Dev nD) : (StableHlo.held (d.tc : Thread nD τ) refs (W₄ m d) : sProp 𝕄)
    = iprop(((tLoc d ↦{fullShare} cTab m d) ∗ (iLoc d ↦{fullShare} cIdx m d) ∗ oLoc d ↦{fullShare} gathered (cTab m d) (cIdx m d))
        ∗ StableHlo.held (d.tc : Thread nD τ) (refs \ callRefs) (W₃ m d)) := by
  rw [StableHlo.held_sub_split (d.tc : Thread nD τ) (show callRefs ⊆ refs by decide) (W₄ m d), held_call,
    StableHlo.held_congr (d.tc : Thread nD τ) (V := W₄ m d) (V' := W₃ m d) (fun b hb => Function.update_of_ne
      (fun e => (Finset.mem_sdiff.mp hb).2 (by rw [e]; decide)) _ _)]
  rw [show W₄ m d (Proc.devRef .tc main_v11) = gathered (cTab m d) (cIdx m d) from Function.update_self ..,
    show W₄ m d (Proc.devRef .tc main_v9_2) = cTab m d from Function.update_of_ne (by decide) ..,
    show W₄ m d (Proc.devRef .tc main_v10) = cIdx m d from Function.update_of_ne (by decide) ..]

/-- What the program ends with: every array at its last contents. -/
abbrev FIN (d : Dev nD) : sProp 𝕄 := StableHlo.held (d.tc : Thread nD τ) refs (W₇ m d)

/-- The TensorCore's state before a call, its debts apart. -/
abbrev others (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n h : ℕ) (hn : 8 * n = h) : ((K (F := F)).tcSt EH d n : sProp 𝕄)
    = iprop((∃ W, ⌜(K (F := F)).WBelow (SparseCore.T d) W h⌝ ∗ owes (d : Thread nD τ) ((K (F := F)).Otc d n) W) ∗ others (F := F) d n) := by
  subst hn; rfl

theorem two_ghosts (Φ : Fin 2 → sProp 𝕄) : (bigSep Finset.univ Φ) = iprop(Φ 0 ∗ Φ 1) := by
  rw [show (Finset.univ : Finset (Fin 2)) = {0, 1} from rfl, SparseCore.bigSep_insert' (by decide), bigSep_singleton]

theorem pre0 (d : Dev nD) : (R0 m).pre d = (iprop(StableHlo.held (d.tc : Thread nD τ) refs (W₁ m d)
    ∗ ∃ W, ⌜(K (F := F)).WBelow (SparseCore.T d) W 0⌝ ∗ owes (d : Thread nD τ) ((K (F := F)).Otc d 0) W) : sProp 𝕄) := by
  rw [← held_refs]; rfl
theorem post0 (d : Dev nD) : (R0 m).post d = (iprop(StableHlo.held (d.tc : Thread nD τ) refs (W₂ m d)
    ∗ ∃ W, ⌜(K (F := F)).WBelow (SparseCore.T d) W 0⌝ ∗ owes (d : Thread nD τ) ((K (F := F)).Otc d 0) W) : sProp 𝕄) := by
  rw [← held_refs]; rfl
theorem pre2 (d : Dev nD) : (R2 m).pre d = (iprop(StableHlo.held (d.tc : Thread nD τ) refs (W₅ m d)
    ∗ ∃ W, ⌜(K (F := F)).WBelow (SparseCore.T d) W 8⌝ ∗ owes (d : Thread nD τ) ((K (F := F)).Otc d 1) W) : sProp 𝕄) := by
  rw [← held_refs]; rfl
theorem post2 (d : Dev nD) : (R2 m).post d = (iprop(StableHlo.held (d.tc : Thread nD τ) refs (W₆ m d)
    ∗ ∃ W, ⌜(K (F := F)).WBelow (SparseCore.T d) W 8⌝ ∗ owes (d : Thread nD τ) ((K (F := F)).Otc d 1) W) : sProp 𝕄) := by
  rw [← held_refs]; rfl

theorem ops₁_refs : ∀ op ∈ (ops₁ : List (HloOp τ sig (Elt F))), op.bufs ⊆ refs := by
  intro op hop
  simp only [ops₁, List.mem_cons, List.not_mem_nil, or_false] at hop
  rcases hop with h | h | h | h | h | h | h | h | h <;> subst h <;> exact Pipeline.sub_ucRefs _ (by simp)
theorem ops₁_fresh : ∀ op ∈ (ops₁ : List (HloOp τ sig (Elt F))), op.fresh = ∅ := by
  intro op hop
  simp only [ops₁, List.mem_cons, List.not_mem_nil, or_false] at hop
  rcases hop with h | h | h | h | h | h | h | h | h <;> subst h <;> rfl
theorem opIdx_refs : ∀ op ∈ [(opIdx : HloOp τ sig (Elt F))], op.bufs ⊆ refs := by
  intro op hop; rw [List.mem_singleton.mp hop]; exact Pipeline.sub_ucRefs _ (StableHlo.reshape_bufs_sub ..)
theorem opRows_refs : ∀ op ∈ [(opRows : HloOp τ sig (Elt F))], op.bufs ⊆ refs := by
  intro op hop; rw [List.mem_singleton.mp hop]; exact Pipeline.sub_ucRefs _ (StableHlo.reshape_bufs_sub ..)
theorem opOut_refs : ∀ op ∈ [(opOut : HloOp τ sig (Elt F))], op.bufs ⊆ refs := by
  intro op hop; rw [List.mem_singleton.mp hop]; exact Pipeline.sub_ucRefs _ (StableHlo.reshape_bufs_sub ..)
theorem one_fresh (o : HloOp τ sig (Elt F)) (h : o.fresh = ∅) : ∀ op ∈ [o], op.fresh = ∅ := by
  intro op hop; rw [List.mem_singleton.mp hop]; exact h

/-- @main on device `d`'s TensorCore. -/
theorem hmain [∀ e, Nonempty (Elt F e)] (κ : GSem nD τ sig → ℕ) (d : Dev nD) :
    iprop((K (F := F)).ctx EH (P (cTab m) (cIdx m) (cOut m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = StableHlo.held (d.tc : Thread nD τ) refs (W₀ m d) from held_refs d (W₀ m d)]
  rw [show (main (F := F) d) = (StableHlo.seq ops₁ >>= fun _ =>
      Prog.lift (.customCall (SparseCore.inner (Pipeline.entry 0)) ()) >>= fun _ =>
      StableHlo.seq [opIdx] >>= fun _ => sc.run d 0 >>= fun _ => StableHlo.seq [opRows] >>= fun _ =>
      Prog.lift (.customCall (SparseCore.inner (Pipeline.entry 1)) ()) >>= fun _ =>
      StableHlo.seq [opOut] >>= fun _ => .ret ⟨⟩) from rfl]
  unfold G
  rw [two_ghosts, two_ghosts, tcSt_eq d 0 0 rfl]
  iintro ⟨#Hctx, ⟨HO, Hoth⟩, ⟨Hb, Hh, Hts, -⟩, ⟨Hg0, Hg1⟩, ⟨Ht0, Ht1⟩⟩
  ihave #Hlev := ((K (F := F)).ctx_levAts (EH := EH) (P := P (cTab m) (cIdx m) (cOut m)) κ) $$ Hctx
  iapply (StableHlo.wp_seq 𝒱 none Set.univ d refs _ ops₁ ops₁_refs ops₁_fresh (W₀ m d)) $$ [Hb Hh]
  · isplitl [Hb] <;> iassumption
  iintro ⟨Hb, Hh⟩
  rw [wp_bind]
  iapply (region_run (atRefs (W₁ m)) (atRefs (W₅ m)) 0 (R0 m) d _)
  rw [pre0, post0]
  isplitr [Hb Hh HO Hg0 Ht0]
  swap
  · isplitl [Hb]; · iexact Hb
    isplitl [Hh HO]
    · isplitl [Hh]; · iexact Hh
      iexact HO
    isplitr; · iexact Hlev
    isplitl [Hg0] <;> iassumption
  iintro ⟨Hb, Hh, HO⟩
  iapply (StableHlo.wp_seq 𝒱 none Set.univ d refs _ [opIdx] opIdx_refs (one_fresh _ rfl) (W₂ m d)) $$ [Hb Hh]
  · isplitl [Hb] <;> iassumption
  iintro ⟨Hb, Hh⟩
  ihave H := (Entails.of_eq (held_before m d)) $$ Hh
  icases H with ⟨Hc, Hh⟩
  rw [wp_bind]
  iapply ((K (F := F)).wp_run (D (F := F)) 𝒱 (EH := EH) (P := P (cTab m) (cIdx m) (cOut m)) κ d 0)
  isplitr; · iexact Hctx
  isplitl [HO Hoth]
  · rw [tcSt_eq d (0 : Fin 1).val 0 rfl]
    isplitl [HO]; · iexact HO
    iexact Hoth
  isplitl [Hc]
  · rw [st0_eq]; iexact Hc
  iintro ⟨Hst, Hdn⟩
  ihave Hc := (Entails.of_eq (dn0_eq (cTab m) (cIdx m) (cOut m) d)) $$ Hdn
  ihave Hh := (Entails.of_eq (held_after m d).symm) $$ [Hc Hh]
  · isplitl [Hc] <;> iassumption
  iapply (StableHlo.wp_seq 𝒱 none Set.univ d refs _ [opRows] opRows_refs (one_fresh _ rfl) (W₄ m d)) $$ [Hb Hh]
  · isplitl [Hb] <;> iassumption
  iintro ⟨Hb, Hh⟩
  ihave Hst := (Entails.of_eq (tcSt_eq (F := F) d ((0 : Fin 1).val + 1) 8 rfl)) $$ Hst
  icases Hst with ⟨HO, Hoth⟩
  rw [wp_bind]
  iapply (region_run (atRefs (W₁ m)) (atRefs (W₅ m)) 1 (R2 m) d _)
  rw [pre2, post2, show W₅ m d = StableHlo.after [opRows] (W₄ m d) from rfl]
  isplitr [Hb Hh HO Hg1 Ht1]
  swap
  · isplitl [Hb]; · iexact Hb
    isplitl [Hh HO]
    · isplitl [Hh]; · iexact Hh
      iexact HO
    isplitr; · iexact Hlev
    isplitl [Hg1] <;> iassumption
  iintro ⟨Hb, Hh, HO⟩
  iapply (StableHlo.wp_seq 𝒱 none Set.univ d refs _ [opOut] opOut_refs (one_fresh _ rfl) (W₆ m d)) $$ [Hb Hh]
  · isplitl [Hb] <;> iassumption
  iintro ⟨Hb, Hh⟩
  iapply (le_wp_ret _ _ _ _ _)
  isplitl [HO Hoth]
  · rw [tcSt_eq d 1 8 rfl]
    isplitl [HO]; · iexact HO
    iexact Hoth
  isplitl [Hh]; · iexact Hh
  isplitl [Hb] <;> iassumption

/-! ## The program's run -/

def fq (d : Dev nD) (s' : Phys nD τ sig (Elt F)) : Prop := ∀ b ∈ refs, s'.mem.mem (d, b) = W₇ m d b

theorem hfin (d : Dev nD) (s' : Phys nD τ sig (Elt F)) : iprop(FIN m d ∗ SI s') ⊢ (⌜fq m d s'⌝ : sProp 𝕄) := by
  unfold FIN StableHlo.held
  refine fun x hx b hb => ?_
  have h := ((sep_mono (bigSep_elim hb) .rfl).trans (sep_comm.1.trans
    (SI_pointsTo_agree (st := s') (ℓ := (d, b)) (I := Finset.univ) (q := fullShare) (f := W₇ m d b)))) x hx
  exact funext fun i => h i (Finset.mem_univ i)

/-- Every array outside the kernels ends at its last contents, every semaphore at zero. -/
def QC : PUnit × MemSt nD τ sig (Elt F) → Prop := fun r =>
  (∀ c : Dev nD, ∀ b ∈ refs, r.2.mem (c, b) = W₇ m c b) ∧ r.2.sem = fun _ => 0

theorem run_main [∀ e, Nonempty (Elt F e)] (hok : IdxOK (cIdx m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (cTab m) (cIdx m) (cOut m)) (A := ∅) facts v₀
    (fun q hq => match q with | 0 => nomatch hq)
    (fun q _ => match q with | 0 => tileObl (cTab m) (cIdx m) (cOut m) facts hok)
    (fun q _ => match q with | 0 => SparseCore.Cfg.VecSplit.of_plain (vecSplit (cTab m) (cIdx m) (cOut m)))
    m ρ main (fun d => G (F := F) d) (FIN m) (u₀ (F := F)) (sep_elim_left.trans (hu₀ (cTab m) (cIdx m) (cOut m))) (hmain m ρ) (fq m) (hfin m) (QC m)
    (fun _ h hz => ⟨h, hz⟩)

end Cert.Proof.Whole
end
-- ==== Proof.Nearest.lean ====
/-
  Sixteen least rows of 8192 distances. A choice of sixteen rows is `Best` when no row left out is strictly nearer than
  a row chosen; when the 16th distance is strictly less than the 17th all best choices are of the same rows. Two ways of
  choosing are shown best: taking the least remaining row sixteen times, and taking the least head of 128 stacks, each of
  the five least of its lane, while no lane is asked for a sixth.
-/
module

public import Idealize.ShloMosaic.PureOps.Ideal

@[expose] public section

namespace Cert.Proof.Nearest

/-- No row left out is nearer than one chosen, and the sixteen rows are different ones. -/
structure Best (D : ℕ → EReal) (S : ℕ → ℕ) : Prop where
  lt : ∀ t < 16, S t < 8192
  inj : ∀ t < 16, ∀ t' < 16, S t = S t' → t = t'
  le : ∀ t < 16, ∀ r < 8192, (∀ t' < 16, S t' ≠ r) → D (S t) ≤ D r

/-- Exactly sixteen rows are nearer than some bound. -/
def Apart (D : ℕ → EReal) (N : Finset ℕ) : Prop := N.card = 16 ∧ ∃ c : EReal, ∀ r, r ∈ N ↔ r < 8192 ∧ D r < c

/-- The first `n` rows chosen. -/
def chosen (S : ℕ → ℕ) (n : ℕ) : Finset ℕ := (Finset.range n).image S

theorem mem_chosen {S : ℕ → ℕ} {n r : ℕ} : r ∈ chosen S n ↔ ∃ t < n, S t = r := by
  simp [chosen]

/-- While fewer than sixteen rows are chosen, one of the nearest is left. -/
theorem left_one {D : ℕ → EReal} {N : Finset ℕ} (h : Apart D N) {S : ℕ → ℕ} {n : ℕ} (hn : n < 16) :
    ∃ a < 8192, D a < ⊤ ∧ ∀ t < n, S t ≠ a := by
  obtain ⟨hc, c, hN⟩ := h
  have hlt : (chosen S n).card < N.card := by
    refine Nat.lt_of_le_of_lt Finset.card_image_le ?_
    rw [Finset.card_range, hc]; exact hn
  obtain ⟨a, ha, hna⟩ := Finset.exists_mem_notMem_of_card_lt_card hlt
  refine ⟨a, ((hN a).mp ha).1, lt_of_lt_of_le ((hN a).mp ha).2 le_top, fun t ht e => hna (mem_chosen.mpr ⟨t, ht, e⟩)⟩

/-- All best choices are of the same rows. -/
theorem Best.chosen_eq {D : ℕ → EReal} {N : Finset ℕ} {S : ℕ → ℕ} (hb : Best D S) (h : Apart D N) : chosen S 16 = N := by
  obtain ⟨hc, c, hN⟩ := h
  have hcard : (chosen S 16).card = 16 := by
    unfold chosen
    rw [Finset.card_image_of_injOn, Finset.card_range]
    intro t ht t' ht' e
    exact hb.inj t (Finset.mem_range.mp ht) t' (Finset.mem_range.mp ht') e
  have hsub : N ⊆ chosen S 16 := by
    intro a ha
    by_contra hna
    have hlt : chosen S 16 ⊆ N.erase a := by
      intro r hr
      obtain ⟨t, ht, rfl⟩ := mem_chosen.mp hr
      refine Finset.mem_erase.mpr ⟨fun e => hna (e ▸ hr), (hN _).mpr ⟨hb.lt t ht, lt_of_le_of_lt
        (hb.le t ht a ((hN a).mp ha).1 fun t' ht' e => hna (mem_chosen.mpr ⟨t', ht', e⟩)) ((hN a).mp ha).2⟩⟩
    have := Finset.card_le_card hlt
    rw [hcard, Finset.card_erase_of_mem ha, hc] at this
    omega
  exact (Finset.eq_of_subset_of_card_le hsub (by rw [hcard, hc])).symm

/-- A run that keeps choosing a row not chosen before, none left being nearer, makes a best choice. -/
theorem best_of_steps {D : ℕ → EReal} {S : ℕ → ℕ} (hlt : ∀ t < 16, S t < 8192) (hnew : ∀ t < 16, ∀ t' < t, S t' ≠ S t)
    (hle : ∀ t < 16, ∀ r < 8192, (∀ t' < t, S t' ≠ r) → D (S t) ≤ D r) : Best D S where
  lt := hlt
  inj t ht t' ht' e := by
    rcases lt_trichotomy t t' with h | h | h
    · exact absurd e (hnew t' ht' t h)
    · exact h
    · exact absurd e.symm (hnew t ht t' h)
  le t ht r hr hn := hle t ht r hr fun t' h => hn t' (h.trans ht)

/-! ## The least remaining row, sixteen times -/

theorem slow_best {D : ℕ → EReal} {N : Finset ℕ} (h : Apart D N) (d : ℕ → ℕ → EReal) (S : ℕ → ℕ)
    (h0 : ∀ r < 8192, d 0 r = D r) (hS : ∀ t < 16, S t < 8192 ∧ ∀ r < 8192, d t (S t) ≤ d t r)
    (hd : ∀ t < 16, ∀ r < 8192, d (t + 1) r = if r = S t then ⊤ else d t r) : Best D S := by
  have key : ∀ t ≤ 16, ∀ r < 8192, ((∀ t' < t, S t' ≠ r) → d t r = D r) ∧ ((∃ t' < t, S t' = r) → d t r = ⊤) := by
    intro t
    induction t with
    | zero => exact fun _ r hr => ⟨fun _ => h0 r hr, fun ⟨_, h, _⟩ => absurd h (Nat.not_lt_zero _)⟩
    | succ t ih =>
      intro ht r hr
      obtain ⟨ih1, ih2⟩ := ih (by omega) r hr
      rw [hd t (by omega) r hr]
      constructor
      · intro hn
        rw [if_neg fun e => hn t (by omega) e.symm]
        exact ih1 fun t' h => hn t' (by omega)
      · rintro ⟨t', ht', e⟩
        by_cases hr' : r = S t
        · rw [if_pos hr']
        · rw [if_neg hr']
          refine ih2 ⟨t', ?_, e⟩
          rcases Nat.lt_succ_iff_lt_or_eq.mp ht' with h | h
          · exact h
          · exact absurd (h ▸ e).symm hr'
  have hnew : ∀ t < 16, ∀ t' < t, S t' ≠ S t := by
    intro t ht t' ht' e
    obtain ⟨a, ha, hat, hna⟩ := left_one h (S := S) ht
    have h1 := (hS t ht).2 a ha
    rw [(key t (by omega) _ (hS t ht).1).2 ⟨t', ht', e⟩, (key t (by omega) a ha).1 hna] at h1
    exact absurd hat (not_lt.mpr h1)
  refine best_of_steps (fun t ht => (hS t ht).1) hnew fun t ht r hr hn => ?_
  have h1 := (hS t ht).2 r hr
  rwa [(key t (by omega) _ (hS t ht).1).1 (hnew t ht), (key t (by omega) r hr).1 hn] at h1

/-! ## Five least of a lane -/

/-- An entry of a stack: a distance and the number of its chunk. -/
abbrev Entry : Type := EReal × ℕ

/-- Putting an entry into a stack: each level keeps the lesser, and hands the other on. -/
noncomputable def ins : List Entry → Entry → List Entry × Entry
  | [], x => ([], x)
  | s :: l, x => if x.1 < s.1 then (x :: (ins l s).1, (ins l s).2) else (s :: (ins l x).1, (ins l x).2)

theorem ins_length : ∀ (l : List Entry) (x : Entry), (ins l x).1.length = l.length
  | [], _ => rfl
  | s :: l, x => by unfold ins; split <;> simp [ins_length l]

theorem ins_perm : ∀ (l : List Entry) (x : Entry), ((ins l x).2 :: (ins l x).1).Perm (x :: l)
  | [], _ => .refl _
  | s :: l, x => by
    unfold ins; split
    · exact (List.Perm.swap _ _ _).trans ((ins_perm l s).cons x)
    · exact (List.Perm.swap _ _ _).trans (((ins_perm l x).cons s).trans (List.Perm.swap _ _ _))

/-- The stack's distances do not fall. -/
abbrev Rising (l : List Entry) : Prop := l.Pairwise fun a b => a.1 ≤ b.1

theorem ins_rising : ∀ (l : List Entry) (x : Entry), Rising l → Rising (ins l x).1 ∧ ∀ y ∈ (ins l x).1, y.1 ≤ (ins l x).2.1
  | [], _, _ => ⟨List.Pairwise.nil, fun _ h => absurd h List.not_mem_nil⟩
  | s :: l, x, h => by
    obtain ⟨hs, hl⟩ := List.pairwise_cons.mp h
    unfold ins; split
    · rename_i hx
      obtain ⟨h1, h2⟩ := ins_rising l s hl
      have hall : ∀ y ∈ (ins l s).2 :: (ins l s).1, x.1 ≤ y.1 := fun y hy => by
        rcases List.mem_cons.mp ((ins_perm l s).mem_iff.mp hy) with e | e
        · exact e ▸ hx.le
        · exact hx.le.trans (hs y e)
      refine ⟨List.pairwise_cons.mpr ⟨fun y hy => hall y (List.mem_cons_of_mem _ hy), h1⟩, fun y hy => ?_⟩
      rcases List.mem_cons.mp hy with e | e
      · exact e ▸ hall _ List.mem_cons_self
      · exact h2 y e
    · rename_i hx
      obtain ⟨h1, h2⟩ := ins_rising l x hl
      have hall : ∀ y ∈ (ins l x).2 :: (ins l x).1, s.1 ≤ y.1 := fun y hy => by
        rcases List.mem_cons.mp ((ins_perm l x).mem_iff.mp hy) with e | e
        · exact e ▸ not_lt.mp hx
        · exact hs y e
      refine ⟨List.pairwise_cons.mpr ⟨fun y hy => hall y (List.mem_cons_of_mem _ hy), h1⟩, fun y hy => ?_⟩
      rcases List.mem_cons.mp hy with e | e
      · exact e ▸ hall _ List.mem_cons_self
      · exact h2 y e

/-- The stack after `n` chunks of distances `g`. -/
noncomputable def stack (g : ℕ → EReal) : ℕ → List Entry
  | 0 => List.replicate 5 (⊤, 0)
  | n + 1 => (ins (stack g n) (g n, n)).1

theorem stack_length (g : ℕ → EReal) : ∀ n, (stack g n).length = 5
  | 0 => rfl
  | n + 1 => by unfold stack; rw [ins_length, stack_length g n]

/-- The stack and what was dropped are the pads and the chunks' distances, and the stack's are the lesser. -/
theorem stack_inv (g : ℕ → EReal) : ∀ n, Rising (stack g n) ∧ ∃ R : List Entry,
    (stack g n ++ R).Perm (List.replicate 5 (⊤, 0) ++ (List.range n).map fun v => (g v, v))
      ∧ ∀ y ∈ stack g n, ∀ r ∈ R, y.1 ≤ r.1
  | 0 => ⟨by simp [stack, Rising], [], by simp [stack]⟩
  | n + 1 => by
    obtain ⟨hr, R, hp, hle⟩ := stack_inv g n
    obtain ⟨h1, h2⟩ := ins_rising (stack g n) (g n, n) hr
    have hperm := ins_perm (stack g n) (g n, n)
    refine ⟨h1, (ins (stack g n) (g n, n)).2 :: R, ?_, ?_⟩
    · show ((ins (stack g n) (g n, n)).1 ++ _ :: R).Perm _
      refine List.perm_middle.trans ?_
      rw [← List.cons_append]
      refine (hperm.append_right R).trans ?_
      rw [List.cons_append, List.range_succ, List.map_append, ← List.append_assoc]
      exact (hp.cons _).trans (List.perm_append_comm (l₁ := [_]))
    · intro y hy r hr'
      rcases List.mem_cons.mp hr' with e | e
      · exact e ▸ h2 y hy
      · by_cases hd : (ins (stack g n) (g n, n)).2 = (g n, n)
        · rw [hd] at hperm
          exact hle y (hperm.cons_inv.mem_iff.mp hy) r e
        · refine (h2 y hy).trans (hle _ ?_ r e)
          rcases List.mem_cons.mp (hperm.mem_iff.mp List.mem_cons_self) with e' | e'
          · exact absurd e' hd
          · exact e'

/-- What is used of a stack of a lane of `n` distances `g`, by level: no fall, a true entry below infinity, different
    chunks, and no chunk's distance less than one in the stack unless its own is there. -/
structure Stack (g : ℕ → EReal) (n : ℕ) (v : ℕ → EReal) (c : ℕ → ℕ) : Prop where
  rise : ∀ j k, j ≤ k → k < 5 → v j ≤ v k
  real : ∀ k < 5, v k < ⊤ → c k < n ∧ g (c k) = v k
  lt : ∀ k < 5, c k < n
  diff : ∀ j k, j < k → k < 5 → v k < ⊤ → c j ≠ c k
  all : ∀ r < n, (∃ k < 5, c k = r ∧ v k = g r) ∨ ∀ k < 5, v k ≤ g r

theorem stack_spec (g : ℕ → EReal) (n : ℕ) (hn : 0 < n) (v : ℕ → EReal) (c : ℕ → ℕ)
    (h : stack g n = [(v 0, c 0), (v 1, c 1), (v 2, c 2), (v 3, c 3), (v 4, c 4)]) : Stack g n v c := by
  obtain ⟨hr, R, hp, hle⟩ := stack_inv g n
  have hget : ∀ k < 5, (stack g n)[k]? = some (v k, c k) := by
    intro k hk
    rw [h]
    match k, hk with
    | 0, _ => rfl
    | 1, _ => rfl
    | 2, _ => rfl
    | 3, _ => rfl
    | 4, _ => rfl
  have hmem : ∀ k < 5, (v k, c k) ∈ stack g n := fun k hk => List.mem_of_getElem? (hget k hk)
  have hin : ∀ k < 5, (v k, c k) = (⊤, 0) ∨ (c k < n ∧ g (c k) = v k) := by
    intro k hk
    have := hp.mem_iff.mp (List.mem_append_left R (hmem k hk))
    rcases List.mem_append.mp this with e | e
    · exact Or.inl (List.eq_of_mem_replicate e)
    · obtain ⟨w, hw, e⟩ := List.mem_map.mp e
      have e1 := congrArg Prod.fst e; have e2 := congrArg Prod.snd e
      dsimp only at e1 e2
      subst e2
      exact Or.inr ⟨List.mem_range.mp hw, e1⟩
  have hrise : ∀ j k, j < k → k < 5 → v j ≤ v k := by
    intro j k hjk hk
    have hl := stack_length g n
    have := List.pairwise_iff_getElem.mp hr j k (by omega) (by omega) hjk
    have ej := hget j (by omega); have ek := hget k hk
    rw [List.getElem?_eq_getElem (by omega)] at ej ek
    rw [Option.some.inj ej, Option.some.inj ek] at this
    exact this
  refine ⟨fun j k hjk hk => ?_, fun k hk ht => ?_, fun k hk => ?_, fun j k hjk hk ht e => ?_, fun r hr' => ?_⟩
  · rcases Nat.lt_or_eq_of_le hjk with h | h
    · exact hrise j k h hk
    · rw [h]
  · rcases hin k hk with e | e
    · exact absurd (congrArg Prod.fst e) ht.ne
    · exact e
  · rcases hin k hk with e | e
    · rw [show c k = 0 from congrArg Prod.snd e]; exact hn
    · exact e.1
  · -- the entries below infinity are different chunks'
    have hnd : (((stack g n ++ R).filter fun e => decide (e.1 < ⊤)).map Prod.snd).Nodup := by
      refine ((hp.filter _).map Prod.snd).nodup_iff.mpr ?_
      rw [List.filter_append, show (List.replicate 5 ((⊤ : EReal), 0)).filter (fun e => decide (e.1 < ⊤)) = [] by simp,
        List.nil_append]
      have hs : (((List.range n).map fun v => (g v, v)).filter fun e => decide (e.1 < ⊤)).map Prod.snd
          = ((List.range n).filter fun v => decide (g v < ⊤)) := by
        rw [List.filter_map, List.map_map]
        exact (List.map_congr_left (fun _ _ => rfl)).trans (List.map_id _)
      rw [hs]
      exact List.nodup_range.filter _
    have hj : v j < ⊤ := lt_of_le_of_lt (hrise j k hjk hk) ht
    have hsub : ([(v j, c j), (v k, c k)] : List Entry).Sublist (stack g n) := by
      rw [h]
      have h5 : ∀ j < 5, ∀ k < 5, j < k → ([(v j, c j), (v k, c k)] : List Entry).Sublist
          ((List.range 5).map fun i => (v i, c i)) := by
        intro j hj k hk hjk
        rw [show ([(v j, c j), (v k, c k)] : List Entry) = [j, k].map fun i => (v i, c i) from rfl]
        refine List.Sublist.map _ ?_
        revert j k; decide
      exact h5 j (by omega) k hk hjk
    have hsub' := ((hsub.trans (List.sublist_append_left _ R)).filter fun e => decide (e.1 < ⊤)).map Prod.snd
    have := hnd.sublist hsub'
    rw [List.filter_cons_of_pos (by simpa using hj), List.filter_cons_of_pos (by simpa using ht)] at this
    simp [e] at this
  · have := hp.symm.mem_iff.mp (List.mem_append_right (List.replicate 5 (⊤, 0)) (List.mem_map.mpr ⟨r, List.mem_range.mpr hr', rfl⟩))
    rcases List.mem_append.mp this with e | e
    · left
      obtain ⟨k, hk, e⟩ := List.mem_iff_getElem.mp e
      have hk5 : k < 5 := by rw [stack_length] at hk; exact hk
      have ek := hget k hk5
      rw [List.getElem?_eq_getElem hk, e] at ek
      have ek := Option.some.inj ek
      exact ⟨k, hk5, (congrArg Prod.snd ek).symm, (congrArg Prod.fst ek).symm⟩
    · right
      exact fun k hk => hle _ (hmem k hk) _ e

/-! ## The least head, sixteen times -/

theorem fast_best {D : ℕ → EReal} {N : Finset ℕ} (h : Apart D N) (v : ℕ → ℕ → Fin 128 → EReal)
    (c : ℕ → ℕ → Fin 128 → ℕ) (cnt : ℕ → Fin 128 → ℕ) (S : ℕ → ℕ)
    (h0 : ∀ l : Fin 128, Stack (fun n => D (128 * n + l.val)) 64 (fun k => v 0 k l) (fun k => c 0 k l))
    (hS : ∀ t < 16, ∃ l : Fin 128, (∀ l', v t 0 l ≤ v t 0 l') ∧ S t = 128 * c t 0 l + l.val)
    (hpop : ∀ t < 16, ∀ l : Fin 128, 128 * c t 0 l + l.val = S t →
      (∀ k < 4, v (t + 1) k l = v t (k + 1) l ∧ c (t + 1) k l = c t (k + 1) l) ∧ cnt (t + 1) l = cnt t l + 1)
    (hstay : ∀ t < 16, ∀ l : Fin 128, 128 * c t 0 l + l.val ≠ S t →
      (∀ k < 5, v (t + 1) k l = v t k l ∧ c (t + 1) k l = c t k l) ∧ cnt (t + 1) l = cnt t l)
    (hc0 : ∀ l, cnt 0 l = 0) (hdeep : ∀ l, cnt 16 l < 5) : Best D S := by
  -- a lane's count does not fall
  have hmono : ∀ n t, t + n = 16 → ∀ l, cnt t l < 5 := by
    intro n
    induction n with
    | zero => intro t ht l; rw [show t = 16 by omega]; exact hdeep l
    | succ n ih =>
      intro t ht l
      have h1 := ih (t + 1) (by omega) l
      by_cases e : 128 * c t 0 l + l.val = S t
      · have := (hpop t (by omega) l e).2; omega
      · have := (hstay t (by omega) l e).2; omega
  have hcnt : ∀ t ≤ 16, ∀ l, cnt t l < 5 := fun t ht l => hmono (16 - t) t (by omega) l
  -- after `t` rounds a lane's stack is the first one's from its count on, and the rows chosen are those before
  have key : ∀ t ≤ 16, (∀ l : Fin 128, ∀ k, k + cnt t l < 5 →
        v t k l = v 0 (k + cnt t l) l ∧ c t k l = c 0 (k + cnt t l) l)
      ∧ (∀ r, (∃ t' < t, S t' = r) → ∃ l : Fin 128, ∃ j < cnt t l, r = 128 * c 0 j l + l.val)
      ∧ (∀ l : Fin 128, ∀ j < cnt t l, ∃ t' < t, S t' = 128 * c 0 j l + l.val) := by
    intro t
    induction t with
    | zero =>
      intro _
      refine ⟨fun l k _ => by rw [hc0 l, Nat.add_zero]; exact ⟨rfl, rfl⟩, fun r ⟨_, h, _⟩ => absurd h (Nat.not_lt_zero _),
        fun l j hj => ?_⟩
      rw [hc0 l] at hj; exact absurd hj (Nat.not_lt_zero _)
    | succ t ih =>
      intro ht
      obtain ⟨ih1, ih2, ih3⟩ := ih (by omega)
      have hS0 : ∀ l : Fin 128, c t 0 l = c 0 (cnt t l) l := fun l => by
        have := (ih1 l 0 (by rw [Nat.zero_add]; exact hcnt t (by omega) l)).2
        rwa [Nat.zero_add] at this
      refine ⟨fun l k hk => ?_, fun r hr => ?_, fun l j hj => ?_⟩
      · by_cases e : 128 * c t 0 l + l.val = S t
        · obtain ⟨hv, hc⟩ := hpop t (by omega) l e
          rw [hc] at hk ⊢
          obtain ⟨a, b⟩ := hv k (by omega)
          obtain ⟨a', b'⟩ := ih1 l (k + 1) (by omega)
          rw [a, b, a', b', show k + 1 + cnt t l = k + (cnt t l + 1) by omega]
          exact ⟨rfl, rfl⟩
        · obtain ⟨hv, hc⟩ := hstay t (by omega) l e
          rw [hc] at hk ⊢
          obtain ⟨a, b⟩ := hv k (by omega)
          rw [a, b]
          exact ih1 l k hk
      · obtain ⟨t', ht', e⟩ := hr
        rcases Nat.lt_succ_iff_lt_or_eq.mp ht' with hlt | heq
        · obtain ⟨l, j, hj, e'⟩ := ih2 r ⟨t', hlt, e⟩
          refine ⟨l, j, lt_of_lt_of_le hj ?_, e'⟩
          by_cases e : 128 * c t 0 l + l.val = S t
          · rw [(hpop t (by omega) l e).2]; omega
          · rw [(hstay t (by omega) l e).2]
        · subst heq
          obtain ⟨l, -, hl⟩ := hS t' (by omega)
          refine ⟨l, cnt t' l, ?_, ?_⟩
          · rw [(hpop t' (by omega) l hl.symm).2]; omega
          · rw [← e, hl, hS0 l]
      · by_cases e : 128 * c t 0 l + l.val = S t
        · rw [(hpop t (by omega) l e).2] at hj
          rcases Nat.lt_succ_iff_lt_or_eq.mp hj with hlt | heq
          · obtain ⟨t', h1, h2⟩ := ih3 l j hlt
            exact ⟨t', by omega, h2⟩
          · exact ⟨t, by omega, by rw [heq, ← hS0 l, e]⟩
        · rw [(hstay t (by omega) l e).2] at hj
          obtain ⟨t', h1, h2⟩ := ih3 l j hj
          exact ⟨t', by omega, h2⟩
  -- the head taken is no greater than the distance of any row left
  have hmin : ∀ t < 16, ∀ l : Fin 128, (∀ l', v t 0 l ≤ v t 0 l') → ∀ r < 8192, (∀ t' < t, S t' ≠ r) → v t 0 l ≤ D r := by
    intro t ht l hl r hr hn
    obtain ⟨k1, k2, k3⟩ := key t (by omega)
    have hr' : r = 128 * (r / 128) + r % 128 := by omega
    set l' : Fin 128 := ⟨r % 128, Nat.mod_lt _ (by omega)⟩ with hl'
    have hc := hcnt t (by omega) l'
    refine (hl l').trans ?_
    have e := (k1 l' 0 (by omega)).1
    rw [Nat.zero_add] at e
    rw [e]
    have hst := h0 l'
    rcases hst.all (r / 128) (by omega) with ⟨k, hk, e1, e2⟩ | hall
    · have hDr : D (128 * (r / 128) + l'.val) = D r := by rw [← hr']
      rw [hDr] at e2
      rw [← e2]
      refine hst.rise _ _ ?_ hk
      by_contra hlt
      obtain ⟨t', ht', e'⟩ := k3 l' k (by omega)
      exact hn t' ht' (by rw [e', e1]; exact hr'.symm)
    · have := hall (cnt t l') hc
      rwa [show 128 * (r / 128) + l'.val = r from hr'.symm] at this
  -- the head taken is a row's own distance, the row not taken before
  have hrow : ∀ t < 16, S t < 8192 ∧ (∀ t' < t, S t' ≠ S t)
      ∧ ∀ r < 8192, (∀ t' < t, S t' ≠ r) → D (S t) ≤ D r := by
    intro t ht
    obtain ⟨l, hl, e⟩ := hS t ht
    obtain ⟨k1, k2, k3⟩ := key t (by omega)
    have hc := hcnt t (by omega) l
    obtain ⟨ev, ec⟩ := k1 l 0 (by omega)
    rw [Nat.zero_add] at ev ec
    have hst := h0 l
    obtain ⟨a, ha, hat, hna⟩ := left_one h (S := S) ht
    have htop : v 0 (cnt t l) l < ⊤ := by rw [← ev]; exact lt_of_le_of_lt (hmin t ht l hl a ha hna) hat
    obtain ⟨hlt, hg⟩ := hst.real (cnt t l) hc htop
    have hDS : D (S t) = v t 0 l := by rw [e, ec, hg, ev]
    refine ⟨by rw [e, ec]; have := l.isLt; omega, fun t' ht' e' => ?_, fun r hr hn => ?_⟩
    · obtain ⟨l2, j, hj, e2⟩ := k2 (S t) ⟨t', ht', e'⟩
      rw [e, ec] at e2
      have hll : l = l2 := Fin.ext (by have := l.isLt; have := l2.isLt; omega)
      subst hll
      exact hst.diff j (cnt t l) hj hc htop (by omega)
    · rw [hDS]; exact hmin t ht l hl r hr hn
  exact best_of_steps (fun t ht => (hrow t ht).1) (fun t ht => (hrow t ht).2.1) fun t ht => (hrow t ht).2.2

end Cert.Proof.Nearest
-- ==== Proof.Words.lean ====
/-
  Small facts the readings use: comparisons of extended reals as conditions, the least of finitely many words, the least of
  finitely many extended reals.
-/
module

public import Idealize.ShloMosaic.Lib.Pointwise

@[expose] public section

namespace Cert.Proof.Whole

open Idealize.ShloMosaic

theorem ofBool_one (p : Bool) : (BitVec.ofBool p = 1#1) ↔ p = true := by cases p <;> decide

theorem olt_one (a b : EReal) : (Ideal.cmp .olt a b = 1#1) ↔ a < b := by
  rw [Ideal.cmp, ofBool_one, decide_eq_true_eq]

theorem ole_one (a b : EReal) : (Ideal.cmp .ole a b = 1#1) ↔ a ≤ b := by
  rw [Ideal.cmp, ofBool_one, decide_eq_true_eq]

theorem ogt_one (a b : EReal) : (Ideal.cmp .ogt a b = 1#1) ↔ b < a := by
  rw [Ideal.cmp, ofBool_one, decide_eq_true_eq]

theorem eq_one {w : Nat} (a b : BitVec w) : (IntOp.cmpi .eq a b = 1#1) ↔ a = b := by
  rw [IntOp.cmpi, ofBool_one]; simp

theorem scalarSelect {α : Type} (c : BitVec 1) (x y : α) : Scalar.select c x y = if c = 1#1 then x else y := by
  unfold Scalar.select; rfl

/-- The least of finitely many words, as signed numbers, is one of them or the word begun with, and none is less. -/
theorem fold_minsi {κ : Type} (s : Finset κ) (b : BitVec 32) (f : κ → BitVec 32) :
    (s.fold IntOp.minsi b f = b ∨ ∃ k ∈ s, s.fold IntOp.minsi b f = f k)
      ∧ (s.fold IntOp.minsi b f).toInt ≤ b.toInt ∧ ∀ k ∈ s, (s.fold IntOp.minsi b f).toInt ≤ (f k).toInt := by
  classical
  induction s using Finset.induction_on with
  | empty => exact ⟨Or.inl (Finset.fold_empty ..), le_of_eq (by rw [Finset.fold_empty]), fun _ h => absurd h (Finset.notMem_empty _)⟩
  | insert a s ha ih =>
    obtain ⟨h1, h2, h3⟩ := ih
    rw [Finset.fold_insert ha]
    generalize s.fold IntOp.minsi b f = m at h1 h2 h3 ⊢
    unfold IntOp.minsi
    by_cases hlt : (f a).slt m = true
    · rw [if_pos hlt]
      have hlt : (f a).toInt < m.toInt := by rwa [BitVec.slt_eq_decide, decide_eq_true_eq] at hlt
      refine ⟨Or.inr ⟨a, Finset.mem_insert_self _ _, rfl⟩, by omega, fun k hk => ?_⟩
      rcases Finset.mem_insert.mp hk with rfl | hk
      · exact le_refl _
      · have := h3 k hk; omega
    · rw [if_neg hlt]
      have hlt : ¬ (f a).toInt < m.toInt := by rwa [BitVec.slt_eq_decide, decide_eq_true_eq] at hlt
      refine ⟨?_, h2, fun k hk => ?_⟩
      · rcases h1 with h | ⟨k, hk, h⟩
        · exact Or.inl h
        · exact Or.inr ⟨k, Finset.mem_insert_of_mem hk, h⟩
      · rcases Finset.mem_insert.mp hk with rfl | hk
        · omega
        · exact h3 k hk

theorem toInt_small {x : BitVec 32} (h : x.toNat ≤ 8192) : x.toInt = x.toNat := by
  rw [BitVec.toInt_eq_toNat_cond, if_pos (by omega)]

/-- The least word of candidates: a row where the test holds, and 8192 elsewhere; where the test holds somewhere the least
    is one of the rows where it does. -/
theorem least_cand {κ : Type} [Fintype κ] (p : κ → Prop) [DecidablePred p] (f : κ → BitVec 32) (hf : ∀ k, (f k).toNat < 8192)
    (k₀ : κ) (h₀ : p k₀) :
    ∃ k, p k ∧ Finset.univ.fold IntOp.minsi 2147483647#32 (fun k => if p k then f k else 8192#32) = f k := by
  obtain ⟨h1, h2, h3⟩ := fold_minsi Finset.univ 2147483647#32 (fun k => if p k then f k else 8192#32)
  generalize Finset.univ.fold IntOp.minsi 2147483647#32 (fun k => if p k then f k else 8192#32) = m at h1 h2 h3 ⊢
  have h4 := h3 k₀ (Finset.mem_univ _)
  rw [if_pos h₀, toInt_small (hf k₀).le] at h4
  have h5 := hf k₀
  rcases h1 with h | ⟨k, -, h⟩
  · rw [h] at h4; norm_num [BitVec.toInt] at h4; omega
  · by_cases hk : p k
    · exact ⟨k, hk, by rw [h, if_pos hk]⟩
    · rw [if_neg hk] at h
      rw [h, toInt_small (by decide)] at h4
      norm_num at h4; omega

/-- The least of finitely many extended reals is one of them. -/
theorem fold_min {κ : Type} [Fintype κ] [Nonempty κ] (f : κ → EReal) :
    (∀ k, Finset.univ.fold min ⊤ f ≤ f k) ∧ ∃ k, ∀ k', f k ≤ f k' ∧ Finset.univ.fold min ⊤ f = f k := by
  have hle : ∀ k, Finset.univ.fold min ⊤ f ≤ f k := fun k =>
    (Finset.le_fold_min (s := Finset.univ) (f := f) (b := ⊤) (Finset.univ.fold min ⊤ f)).mp (le_refl _) |>.2 k (Finset.mem_univ _)
  obtain ⟨k, hk⟩ := Finite.exists_min f
  have : f k ≤ Finset.univ.fold min ⊤ f :=
    Finset.le_fold_min (f k) |>.mpr ⟨le_top, fun k' _ => hk k'⟩
  exact ⟨hle, k, fun k' => ⟨hk k', le_antisymm (hle k) this⟩⟩

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

end Cert.Proof.Whole
-- ==== Proof.Blocks.lean ====
/-
  The neighbour search of one block read at a query: the stacks are each lane's five least distances, a round takes the
  least head, and where the distances of a query have a nearest sixteen the sixteen rows the block names are those.
-/
module

public import proofs.«01_k».proof.Proof.Search
public import proofs.«01_k».proof.Proof.Nearest
public import proofs.«01_k».proof.Proof.Words

@[expose] public section

noncomputable section

namespace Cert.Proof.Whole

open Idealize.ShloMosaic Idealize.SL.Sem Cert.KernelIdeal Cert.KernelIdeal.Gen Cert.Proof.Nearest

/-! ## The stacks -/

section Stacks

variable (s : Nat → FVec Ideal S128x256 .f32) (x : FVec Ideal S128x256 .f32) (t : Nat → IVec S128x256 32)
  (n : IVec S128x256 32) (i : S128x256.Idx)

/-- The entry that reaches level `k`. -/
def moving (k : Nat) : Entry := (carry s x k i, (carryNo s x t n k i).toNat)

/-- The entry at level `k`. -/
def held (k : Nat) : Entry := (s k i, (t k i).toNat)

theorem stays_one (k : Nat) : (stays s x k i = 1#1) ↔ (moving s x t n i k).1 < (held s t i k).1 := olt_one _ _

theorem moving_succ (k : Nat) : moving s x t n i (k + 1)
    = if (moving s x t n i k).1 < (held s t i k).1 then held s t i k else moving s x t n i k := by
  have h : (moving s x t n i (k + 1)) = (if stays s x k i = 1#1 then s k i else carry s x k i,
      BitVec.toNat (if stays s x k i = 1#1 then t k i else carryNo s x t n k i)) := rfl
  rw [h]
  by_cases hc : stays s x k i = 1#1
  · rw [if_pos hc, if_pos hc, if_pos ((stays_one s x t n i k).mp hc)]; rfl
  · rw [if_neg hc, if_neg hc, if_neg fun h => hc ((stays_one s x t n i k).mpr h)]; rfl

theorem held_put (k : Nat) : held (put s x) (putNo s x t n) i k
    = if (moving s x t n i k).1 < (held s t i k).1 then moving s x t n i k else held s t i k := by
  have h : held (put s x) (putNo s x t n) i k = (if stays s x k i = 1#1 then carry s x k i else s k i,
      BitVec.toNat (if stays s x k i = 1#1 then carryNo s x t n k i else t k i)) := rfl
  rw [h]
  by_cases hc : stays s x k i = 1#1
  · rw [if_pos hc, if_pos hc, if_pos ((stays_one s x t n i k).mp hc)]; rfl
  · rw [if_neg hc, if_neg hc, if_neg fun h => hc ((stays_one s x t n i k).mpr h)]; rfl

theorem ins_cons (a : Entry) (l : List Entry) (y : Entry) :
    (ins (a :: l) y).1 = (if y.1 < a.1 then y else a) :: (ins l (if y.1 < a.1 then a else y)).1 := by
  rw [ins]; split <;> rfl

theorem held_ins : (ins [held s t i 0, held s t i 1, held s t i 2, held s t i 3, held s t i 4] (moving s x t n i 0)).1
    = [held (put s x) (putNo s x t n) i 0, held (put s x) (putNo s x t n) i 1, held (put s x) (putNo s x t n) i 2,
      held (put s x) (putNo s x t n) i 3, held (put s x) (putNo s x t n) i 4] := by
  rw [ins_cons, ← moving_succ, ← held_put, ins_cons, ← moving_succ, ← held_put, ins_cons, ← moving_succ, ← held_put,
    ins_cons, ← moving_succ, ← held_put, ins_cons, ← held_put]
  rfl

end Stacks

theorem chunk_at (d : FVec Ideal S8192x256 .f32) (n : Nat) (hn : n < 64) (l : Fin 128) (q : Fin 256) :
    chunk d n (ix2 l q) = d (ix2 ⟨128 * n + l.val, by have := l.isLt; omega⟩ q) := by
  have h : chunk d n (ix2 l q) = d (ix2 ⟨128 * (n % 64) + l.val, by have := l.isLt; omega⟩ q) := by pointwise [chunk]
  rw [h]
  congr 2
  exact Fin.ext (by show 128 * (n % 64) + l.val = 128 * n + l.val; rw [Nat.mod_eq_of_lt hn])

/-- The distances of a query, by row number. -/
def far (d : FVec Ideal S8192x256 .f32) (q : Fin 256) (r : ℕ) : EReal := if h : r < 8192 then d (ix2 ⟨r, h⟩ q) else ⊤

theorem far_of_lt (d : FVec Ideal S8192x256 .f32) (q : Fin 256) {r : ℕ} (h : r < 8192) : far d q r = d (ix2 ⟨r, h⟩ q) := dif_pos h

/-- The stacks of a lane are its five least distances so far. -/
theorem held_eq (d : FVec Ideal S8192x256 .f32) (l : Fin 128) (q : Fin 256) : ∀ n ≤ 64,
    stack (fun v => far d q (128 * v + l.val)) n
      = [held (val d n) (no d n) (ix2 l q) 0, held (val d n) (no d n) (ix2 l q) 1, held (val d n) (no d n) (ix2 l q) 2,
        held (val d n) (no d n) (ix2 l q) 3, held (val d n) (no d n) (ix2 l q) 4]
  | 0, _ => by
    have h : ∀ k, held (val d 0) (no d 0) (ix2 l q) k = (⊤, 0) := fun k =>
      Prod.ext (show Ideal.ofBits .f32 0x7F800000#32 = ⊤ from ofBits_top) rfl
    rw [h, h, h, h, h]; rfl
  | n + 1, hn => by
    have hm : (far d q (128 * n + l.val), n) = moving (val d n) (chunk d n) (no d n) (chunkNo n) (ix2 l q) 0 := by
      refine Prod.ext ?_ ?_
      · rw [far_of_lt d q (by have := l.isLt; omega)]
        exact (chunk_at d n (by omega) l q).symm
      · show n = (BitVec.ofNat 32 n).toNat
        rw [BitVec.toNat_ofNat, Nat.mod_eq_of_lt (by omega)]
    show (ins (stack _ n) (far d q (128 * n + l.val), n)).1 = _
    rw [held_eq d l q n (by omega), hm, held_ins]
    rfl

theorem held_spec (d : FVec Ideal S8192x256 .f32) (l : Fin 128) (q : Fin 256) :
    Stack (fun v => far d q (128 * v + l.val)) 64 (fun k => val d 64 k (ix2 l q)) (fun k => (no d 64 k (ix2 l q)).toNat) :=
  stack_spec _ 64 (by decide) _ _ (held_eq d l q 64 le_rfl)

/-! ## The rounds -/

section Rounds

variable (s : Nat → FVec Ideal S128x256 .f32) (t : Nat → IVec S128x256 32)

theorem row_toNat {v : BitVec 32} (hv : v.toNat < 64) (l : Fin 128) :
    (IntOp.addi (IntOp.muli v 128#32) (BitVec.ofNat 32 l.val)).toNat = 128 * v.toNat + l.val := by
  have := l.isLt
  unfold IntOp.addi IntOp.muli
  rw [BitVec.toNat_add, BitVec.toNat_mul, BitVec.toNat_ofNat, BitVec.toNat_ofNat]
  omega

theorem rows_at (l : Fin 128) (q : Fin 256) :
    rows t (ix2 l q) = IntOp.addi (IntOp.muli (t 0 (ix2 l q)) 128#32) (BitVec.ofNat 32 l.val) := by pointwise [rows, lane]

theorem rows_toNat {l : Fin 128} {q : Fin 256} (h : (t 0 (ix2 l q)).toNat < 64) :
    (rows t (ix2 l q)).toNat = 128 * (t 0 (ix2 l q)).toNat + l.val := by rw [rows_at, row_toNat h]

/-- The row picked is that of a least head. -/
theorem pick_spec (q : Fin 256) (h : ∀ l : Fin 128, (t 0 (ix2 l q)).toNat < 64) :
    ∃ l : Fin 128, (∀ l' : Fin 128, s 0 (ix2 l q) ≤ s 0 (ix2 l' q)) ∧ pick s t (ix2 0 q) = rows t (ix2 l q) := by
  have e : pick s t (ix2 0 q) = Finset.univ.fold IntOp.minsi 2147483647#32 (fun l : Fin 128 =>
      if s 0 (ix2 l q) ≤ Finset.univ.fold min ⊤ (fun l' : Fin 128 => s 0 (ix2 l' q)) then rows t (ix2 l q) else 8192#32) := by
    rw [← ofBits_top]
    pointwise [pick, cand, least, rows, lane]
  rw [e]
  obtain ⟨h1, k, h2⟩ := fold_min (fun l' : Fin 128 => s 0 (ix2 l' q))
  obtain ⟨l, hl, hr⟩ := least_cand (fun l : Fin 128 => s 0 (ix2 l q) ≤ Finset.univ.fold min ⊤ (fun l' : Fin 128 => s 0 (ix2 l' q)))
    (fun l => rows t (ix2 l q)) (fun l => by rw [rows_toNat t (h l)]; have := h l; have := l.isLt; omega) k (h2 k).2.ge
  exact ⟨l, fun l' => hl.trans (h1 l'), hr⟩

theorem hit_at (l : Fin 128) (q : Fin 256) : (hit s t (ix2 l q) = 1#1) ↔ rows t (ix2 l q) = pick s t (ix2 0 q) := by
  have e : hit s t (ix2 l q) = IntOp.cmpi .eq (rows t (ix2 l q)) (pick s t (ix2 0 q)) := by pointwise [hit, picks]
  rw [e, eq_one]

end Rounds
/-! ## The sixteen rounds, from the stacks `s`, `t` -/

section Fast

variable (s : Nat → FVec Ideal S128x256 .f32) (t : Nat → IVec S128x256 32)

theorem leftVal_succ (r : Nat) : leftVal s t (r + 1) = popVal (leftVal s t r) (leftNo s t r) := rfl
theorem leftNo_succ (r : Nat) : leftNo s t (r + 1) = popNo (leftVal s t r) (leftNo s t r) := rfl
theorem count_succ (r : Nat) (i : S128x256.Idx) :
    count s t (r + 1) i = IntOp.addi (count s t r i) ((hits s t r i).setWidth 32) := rfl

theorem popVal_at (k : Nat) (hk : k < 4) (i : S128x256.Idx) :
    popVal s t k i = if hit s t i = 1#1 then s (k + 1) i else s k i := by
  match k, hk with
  | 0, _ => rfl
  | 1, _ => rfl
  | 2, _ => rfl
  | 3, _ => rfl

theorem popVal_last (i : S128x256.Idx) : popVal s t 4 i = if hit s t i = 1#1 then top i else s 4 i := rfl

theorem popNo_at (k : Nat) (hk : k < 4) (i : S128x256.Idx) :
    popNo s t k i = if hit s t i = 1#1 then t (k + 1) i else t k i := by
  match k, hk with
  | 0, _ => rfl
  | 1, _ => rfl
  | 2, _ => rfl
  | 3, _ => rfl

theorem popNo_last (i : S128x256.Idx) : popNo s t 4 i = t 4 i := rfl

theorem leftNo_lt (i : S128x256.Idx) (h : ∀ k < 5, (t k i).toNat < 64) : ∀ r, ∀ k < 5, (leftNo s t r k i).toNat < 64
  | 0 => h
  | r + 1 => fun k hk => by
    have ih := leftNo_lt i h r
    rw [leftNo_succ]
    by_cases h4 : k = 4
    · subst h4; rw [popNo_last]; exact ih 4 (by decide)
    · rw [popNo_at _ _ k (by omega)]
      split
      · exact ih (k + 1) (by omega)
      · exact ih k hk

theorem count_step (r : Nat) (i : S128x256.Idx) (hr : r < 16) (h : (count s t r i).toNat ≤ r) :
    (count s t (r + 1) i).toNat = (count s t r i).toNat + if hits s t r i = 1#1 then 1 else 0 := by
  rw [count_succ]
  unfold IntOp.addi
  rw [BitVec.toNat_add, BitVec.toNat_setWidth]
  have : (hits s t r i).toNat = if hits s t r i = 1#1 then 1 else 0 := by
    generalize hits s t r i = b
    revert b; decide
  rw [this]
  split <;> omega

theorem count_le (i : S128x256.Idx) : ∀ r ≤ 16, (count s t r i).toNat ≤ r
  | 0, _ => le_refl 0
  | r + 1, hr => by
    have ih := count_le i r (by omega)
    rw [count_step s t r i (by omega) ih]
    split <;> omega

/-- The rows the rounds pick are a best choice, where no lane is taken from five times or more. -/
theorem fast_rows {D : ℕ → EReal} {N : Finset ℕ} (hD : Apart D N) (q : Fin 256)
    (hst : ∀ l : Fin 128, Stack (fun v => D (128 * v + l.val)) 64 (fun k => s k (ix2 l q)) (fun k => (t k (ix2 l q)).toNat))
    (hdeep : ∀ l : Fin 128, (count s t 16 (ix2 l q)).toNat < 5) : Best D (fun r => (fastRow s t r (ix2 0 q)).toNat) := by
  have hno : ∀ l : Fin 128, ∀ r, ∀ k < 5, (leftNo s t r k (ix2 l q)).toNat < 64 := fun l =>
    leftNo_lt s t (ix2 l q) fun k hk => (hst l).lt k hk
  have hhit : ∀ (r : ℕ) (l : Fin 128), (hits s t r (ix2 l q) = 1#1)
      ↔ 128 * (leftNo s t r 0 (ix2 l q)).toNat + l.val = (fastRow s t r (ix2 0 q)).toNat := fun r l => by
    refine (hit_at _ _ l q).trans ?_
    rw [← rows_toNat (leftNo s t r) (hno l r 0 (by decide))]
    exact BitVec.toNat_inj.symm
  refine fast_best hD (fun r k l => leftVal s t r k (ix2 l q)) (fun r k l => (leftNo s t r k (ix2 l q)).toNat)
    (fun r l => (count s t r (ix2 l q)).toNat) _ hst (fun r hr => ?_) (fun r hr l e => ?_) (fun r hr l e => ?_) (fun l => rfl) hdeep
  · obtain ⟨l, h1, h2⟩ := pick_spec (leftVal s t r) (leftNo s t r) q fun l => hno l r 0 (by decide)
    exact ⟨l, h1, (congrArg BitVec.toNat h2).trans (rows_toNat (leftNo s t r) (hno l r 0 (by decide)))⟩
  · have hh := (hhit r l).mpr e
    refine ⟨fun k hk => ⟨?_, ?_⟩, ?_⟩
    · show leftVal s t (r + 1) k (ix2 l q) = leftVal s t r (k + 1) (ix2 l q)
      rw [leftVal_succ, popVal_at _ _ k hk]; exact if_pos hh
    · show (leftNo s t (r + 1) k (ix2 l q)).toNat = (leftNo s t r (k + 1) (ix2 l q)).toNat
      rw [leftNo_succ, popNo_at _ _ k hk]; exact congrArg BitVec.toNat (if_pos hh)
    · show (count s t (r + 1) (ix2 l q)).toNat = (count s t r (ix2 l q)).toNat + 1
      rw [count_step s t r _ hr (count_le s t _ r (by omega)), if_pos hh]
  · have hh : ¬ hits s t r (ix2 l q) = 1#1 := fun h => e ((hhit r l).mp h)
    refine ⟨fun k hk => ⟨?_, ?_⟩, ?_⟩
    · show leftVal s t (r + 1) k (ix2 l q) = leftVal s t r k (ix2 l q)
      rw [leftVal_succ]
      by_cases h4 : k = 4
      · subst h4; rw [popVal_last]; exact if_neg hh
      · rw [popVal_at _ _ k (by omega)]; exact if_neg hh
    · show (leftNo s t (r + 1) k (ix2 l q)).toNat = (leftNo s t r k (ix2 l q)).toNat
      rw [leftNo_succ]
      by_cases h4 : k = 4
      · subst h4; rw [popNo_last]
      · rw [popNo_at _ _ k (by omega)]; exact congrArg BitVec.toNat (if_neg hh)
    · show (count s t (r + 1) (ix2 l q)).toNat = (count s t r (ix2 l q)).toNat
      rw [count_step s t r _ hr (count_le s t _ r (by omega)), if_neg hh, Nat.add_zero]

end Fast

/-! ## Whether a lane is asked for a sixth -/

theorem sge_one {v : BitVec 32} (h : v.toNat ≤ 16) : (IntOp.cmpi .sge v 5#32 = 1#1) ↔ 5 ≤ v.toNat := by
  rw [IntOp.cmpi, ofBool_one]
  simp only [BitVec.sle_eq_decide, decide_eq_true_eq]
  rw [toInt_small (by omega : v.toNat ≤ 8192), show (5#32).toInt = 5 from rfl]
  omega

theorem deep_spec (c : IVec S128x256 32) (hc : ∀ (l : Fin 128) (q : Fin 256), (c (ix2 l q)).toNat ≤ 16) (hd : deep (F := Ideal) c ≠ 1#1)
    (l : Fin 128) (q : Fin 256) : (c (ix2 l q)).toNat < 5 := by
  by_contra hlt
  apply hd
  have e : deep (F := Ideal) c = Scalar.cmpi .ne (Scalar.extui (BitVec.ofBool (decide (0 < Finset.univ.fold max
      (Ideal.ofBits FTy.f32 4286578688#32) (fun x : Fin 128 × Fin 256 => Scalar.select (IntOp.cmpi .sge (c (ix2 x.1 x.2)) 5#32) (1 : EReal) 0))))
      : BitVec 32) 0#32 := by
    pointwise [deep]
  have hpos : (0 : EReal) < Finset.univ.fold max (Ideal.ofBits FTy.f32 4286578688#32)
      (fun x : Fin 128 × Fin 256 => Scalar.select (IntOp.cmpi .sge (c (ix2 x.1 x.2)) 5#32) (1 : EReal) 0) := by
    refine Finset.lt_fold_max _ |>.mpr (Or.inr ⟨(l, q), Finset.mem_univ _, ?_⟩)
    rw [scalarSelect, if_pos ((sge_one (hc l q)).mpr (by omega))]
    exact zero_lt_one
  rw [e, decide_eq_true hpos]
  decide

/-! ## The slow way -/

section Slow

theorem slowPick_spec (d : FVec Ideal S8192x256 .f32) (q : Fin 256) :
    ∃ r : Fin 8192, (∀ r' : Fin 8192, d (ix2 r q) ≤ d (ix2 r' q)) ∧ slowPick d (ix2 0 q) = BitVec.ofNat 32 r.val := by
  have e : slowPick d (ix2 0 q) = Finset.univ.fold IntOp.minsi 2147483647#32 (fun r : Fin 8192 =>
      if d (ix2 r q) ≤ Finset.univ.fold min ⊤ (fun r' : Fin 8192 => d (ix2 r' q)) then BitVec.ofNat 32 r.val else 8192#32) := by
    rw [← ofBits_top]
    pointwise [slowPick, rowNo]
  rw [e]
  obtain ⟨h1, k, h2⟩ := fold_min (fun r' : Fin 8192 => d (ix2 r' q))
  obtain ⟨r, hr, h⟩ := least_cand (fun r : Fin 8192 => d (ix2 r q) ≤ Finset.univ.fold min ⊤ (fun r' : Fin 8192 => d (ix2 r' q)))
    (fun r => BitVec.ofNat 32 r.val)
    (fun r => by have := r.isLt; rw [BitVec.toNat_ofNat]; omega) k (h2 k).2.ge
  exact ⟨r, fun r' => hr.trans (h1 r'), h⟩

theorem slowDrop_at (d : FVec Ideal S8192x256 .f32) (r : Fin 8192) (q : Fin 256) :
    slowDrop d (ix2 r q) = if r.val = (slowPick d (ix2 0 q)).toNat then ⊤ else d (ix2 r q) := by
  have e : slowDrop d (ix2 r q) = Scalar.select (IntOp.cmpi .eq (BitVec.ofNat 32 r.val) (slowPick d (ix2 0 q)))
      (Ideal.ofBits .f32 0x7F800000#32) (d (ix2 r q)) := by pointwise [slowDrop, rowNo]
  rw [e, scalarSelect, ofBits_top]
  have hr := r.isLt
  refine if_congr ((eq_one _ _).trans ?_) rfl rfl
  rw [← BitVec.toNat_inj, BitVec.toNat_ofNat, Nat.mod_eq_of_lt (by omega)]

theorem slow_rows {N : Finset ℕ} (d : FVec Ideal S8192x256 .f32) (q : Fin 256) (hD : Apart (far d q) N) :
    Best (far d q) (fun k => (slowRow d k (ix2 0 q)).toNat) := by
  refine slow_best hD (fun k r => far (slowed d k) q r) _ (fun r _ => rfl) (fun k _ => ?_) (fun k _ r hr => ?_)
  · obtain ⟨r, h1, h2⟩ := slowPick_spec (slowed d k) q
    have hr := r.isLt
    have e : (slowRow d k (ix2 0 q)).toNat = r.val := by
      show (slowPick (slowed d k) (ix2 0 q)).toNat = _
      rw [h2, BitVec.toNat_ofNat, Nat.mod_eq_of_lt (by omega)]
    refine ⟨by rw [e]; exact hr, fun r' hr' => ?_⟩
    show far (slowed d k) q (slowRow d k (ix2 0 q)).toNat ≤ far (slowed d k) q r'
    rw [e, far_of_lt _ q hr, far_of_lt _ q hr']
    exact h1 ⟨r', hr'⟩
  · show far (slowed d (k + 1)) q r = _
    rw [far_of_lt _ q hr, far_of_lt _ q hr]
    exact slowDrop_at (slowed d k) ⟨r, hr⟩ q

end Slow

/-! ## The block -/

theorem sixteen_at (r : Nat → IVec S1x256 32) (k : Fin 16) (q : Fin 256) : sixteen r (ix2 k q) = r k.val (ix2 0 q) := by
  have h : sixteen r = concatenate S16x256 0 (List.ofFn fun n : Fin 16 => (⟨S1x256, r n.val⟩ : (s : Shape) × (s.Idx → BitVec 32)))
      concatenates_S1x256_S1x256_S1x256_S1x256_S1x256_S1x256_S1x256_S1x256_S1x256_S1x256_S1x256_S1x256_S1x256_S1x256_S1x256_S1x256_S16x256_d0 := rfl
  refine (congrFun h (ix2 k q)).trans
    (concatenate_ofFn_unit_apply (s₁ := S1x256) (t := S16x256) 0 (fun n : Fin 16 => r n.val) _ rfl rfl (ix2 k q) k rfl (ix2 0 q) fun b hb => ?_)
  match b, hb with
  | ⟨0, _⟩, hb => exact absurd rfl hb
  | ⟨1, _⟩, _ => rfl

/-- The rows the block names for a query are a best choice, where the query's distances have a nearest sixteen. -/
theorem block_best {N : Finset ℕ} (d : FVec Ideal S8192x256 .f32) (q : Fin 256) (hD : Apart (far d q) N) :
    ∃ S : ℕ → ℕ, Best (far d q) S ∧ ∀ k : Fin 16, (block d (ix2 k q)).toNat = S k.val := by
  unfold block
  by_cases hd : deep (F := Ideal) (count (val d 64) (no d 64) 16) = 1#1
  · rw [if_pos hd]
    exact ⟨_, slow_rows d q hD, fun k => by rw [sixteen_at]⟩
  · rw [if_neg hd]
    exact ⟨_, fast_rows (val d 64) (no d 64) hD q (fun l => held_spec d l q)
      (fun l => deep_spec _ (fun l q => count_le _ _ _ 16 le_rfl) hd l q), fun k => by rw [sixteen_at]⟩

end Cert.Proof.Whole

end
-- ==== Proof.Reads.lean ====
/-
  The two TensorCore calls' windows read and written element by element: where each element of a block lies in its
  array, and what an element of a result array holds after the call.
-/
module

public import proofs.«01_k».proof.Proof.WholeRun
public import proofs.«01_k».proof.Proof.Blocks
public import Idealize.ShloMosaic.Lib.Pipeline.ValueKit

@[expose] public section

set_option maxRecDepth 16384

noncomputable section

namespace Cert.Proof.Whole

open Idealize.ShloMosaic Idealize.SL.Sem Cert.KernelIdeal Cert.KernelIdeal.Gen
open Idealize.ShloMosaic.TcCoe

/-! ## Places -/

theorem points0 : cfg0.N = 32 := rfl
theorem points2 : cfg2.N = 32 := rfl

theorem wide {n : ℕ} (hn : n = 32) (t : Fin n) (q : Fin 256) : 256 * t.val + q.val < 8192 := by
  have := t.isLt; have := q.isLt; omega

/-- The row of query `q` of block `t`. -/
def spot {n : ℕ} (hn : n = 32) (t : Fin n) (q : Fin 256) : Fin 8192 := ⟨256 * t.val + q.val, wide hn t q⟩

/-- Every row is a query of some block. -/
theorem exists_spot {n : ℕ} (hn : n = 32) (r : Fin 8192) : ∃ (t : Fin n) (q : Fin 256), r = spot hn t q :=
  ⟨⟨r.val / 256, by have := r.isLt; omega⟩, ⟨r.val % 256, Nat.mod_lt _ (by decide)⟩,
    Fin.ext (by show r.val = 256 * (r.val / 256) + r.val % 256; omega)⟩

theorem coord0 : ∀ t : Fin cfg0.N, ((grid0.coords t) 0).val = t.val := by decide +kernel
theorem at0_0 : ∀ t : Fin cfg0.N, win0_0.index t = ![0, 0] := (by decide +kernel : ∀ t : Fin grid0.N, _)
theorem at0_1 : ∀ t : Fin cfg0.N, win0_1.index t = ![t.val, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![0, 0] := (by decide +kernel : ∀ t : Fin grid0.N, _)
theorem at0_5 : ∀ t : Fin cfg0.N, win0_5.index t = ![0, t.val] := (by decide +kernel : ∀ t : Fin grid0.N, _)
theorem at0_6 : ∀ t : Fin cfg0.N, win0_6.index t = ![t.val, 0] := (by decide +kernel : ∀ t : Fin grid0.N, _)
theorem at0_7 : ∀ t : Fin cfg0.N, win0_7.index t = ![t.val, 0] := (by decide +kernel : ∀ t : Fin grid0.N, _)
theorem at2_0 : ∀ t : Fin cfg2.N, win2_0.index t = ![t.val, 0] := (by decide +kernel : ∀ t : Fin grid2.N, _)
theorem at2_1 : ∀ t : Fin cfg2.N, win2_1.index t = ![0, t.val, 0] := (by decide +kernel : ∀ t : Fin grid2.N, _)
theorem at2_2 : ∀ t : Fin cfg2.N, win2_2.index t = ![0, 0] := (by decide +kernel : ∀ t : Fin grid2.N, _)
theorem at2_3 : ∀ t : Fin cfg2.N, win2_3.index t = ![0, 0] := (by decide +kernel : ∀ t : Fin grid2.N, _)
theorem at2_4 : ∀ t : Fin cfg2.N, win2_4.index t = ![t.val, 0] := (by decide +kernel : ∀ t : Fin grid2.N, _)

/-! ## The blocks read -/

section In

variable {F : FTy → Type} (V : Arrays F) (c : Dev nD)

theorem in0_0 (t : Fin cfg0.N) (r : Fin 8192) (k : Fin 64) : in0 V c 0 t (ix2 r k) = V c main_v0 (ix2 r k) := by
  show V c main_v0 ((win0_0.blk t).view.emb (ix2 r k)) = _
  refine congrArg (V c main_v0) ?_
  blk_ext [at0_0]

theorem in0_1 (t : Fin cfg0.N) (q : Fin 256) (k : Fin 64) : in0 V c 1 t (ix2 q k) = V c main_v0 (ix2 (spot points0 t q) k) := by
  show V c main_v0 ((win0_1.blk t).view.emb (ix2 q k)) = _
  refine congrArg (V c main_v0) ?_
  blk_ext [at0_1, spot]

theorem in0_2 (t : Fin cfg0.N) (r k : Fin 64) : in0 V c 2 t (ix2 r k) = V c main_v4 (ix2 r k) := by
  show V c main_v4 ((win0_2.blk t).view.emb (ix2 r k)) = _
  refine congrArg (V c main_v4) ?_
  blk_ext [at0_2]

theorem in0_3 (t : Fin cfg0.N) (r k : Fin 64) : in0 V c 3 t (ix2 r k) = V c main_v5 (ix2 r k) := by
  show V c main_v5 ((win0_3.blk t).view.emb (ix2 r k)) = _
  refine congrArg (V c main_v5) ?_
  blk_ext [at0_3]

theorem in0_4 (t : Fin cfg0.N) (k : Fin 64) : in0 V c 4 t (ix2 0 k) = V c main_v6 (ix2 0 k) := by
  show V c main_v6 ((win0_4.blk t).view.emb (ix2 0 k)) = _
  refine congrArg (V c main_v6) ?_
  blk_ext [at0_4]

theorem in2_0 (t : Fin cfg2.N) (q : Fin 256) (k : Fin 64) : in2 V c 0 t (ix2 q k) = V c main_v9_1 (ix2 (spot points2 t q) k) := by
  show V c main_v9_1 ((win2_0.blk t).view.emb (ix2 q k)) = _
  refine congrArg (V c main_v9_1) ?_
  blk_ext [at2_0, spot]

theorem in2_1 (t : Fin cfg2.N) (s : Fin 16) (q : Fin 256) (k : Fin 128) :
    in2 V c 1 t (ix3 s q k) = V c main_v12 (ix3 s (spot points2 t q) k) := by
  show V c main_v12 ((win2_1.blk t).view.emb (ix3 s q k)) = _
  refine congrArg (V c main_v12) ?_
  blk_ext [at2_1, spot]

theorem in2_2 (t : Fin cfg2.N) (r k : Fin 64) : in2 V c 2 t (ix2 r k) = V c main_v7 (ix2 r k) := by
  show V c main_v7 ((win2_2.blk t).view.emb (ix2 r k)) = _
  refine congrArg (V c main_v7) ?_
  blk_ext [at2_2]

theorem in2_3 (t : Fin cfg2.N) (k : Fin 64) : in2 V c 3 t (ix2 0 k) = V c main_v8 (ix2 0 k) := by
  show V c main_v8 ((win2_3.blk t).view.emb (ix2 0 k)) = _
  refine congrArg (V c main_v8) ?_
  blk_ext [at2_3]

end In

/-! ## The result arrays -/

section Out

variable (V : Arrays Ideal) (n h : ℕ) (c : Dev nD)

theorem after0_5 (t : Fin cfg0.N) :
    (dat0 V n h c).after 5 t = blockI (F := Ideal) (grid0.coords t) (in0 V c 0 t) (in0 V c 1 t) := by
  dsimp only [dat0]

theorem out0_5 (t : Fin cfg0.N) (k : Fin 16) (q : Fin 256) : (dat0 V n h c).arrAt 5 cfg0.N (ix2 k (spot points0 t q))
    = blockI (F := Ideal) (grid0.coords t) (in0 V c 0 t) (in0 V c 1 t) (ix2 k q) := by
  have h1 := (dat0 V n h c).arrAt_emb_eq_flushed 5 (Pipeline.Window.hdisj_of_index_inj win0_5 fun t t' _ _ e => by
    rw [at0_5 t, at0_5 t'] at e
    exact Fin.ext (congrFun e 1)) t (flush0_5 t) (ix2 k q)
  have h2 : (win0_5.blk t).view.emb (ix2 k q) = ix2 k (spot points0 t q) := by blk_ext [at0_5, spot]
  have h3 : (dat0 V n h c).flushed 5 t (ix2 k q) = blockI (F := Ideal) (grid0.coords t) (in0 V c 0 t) (in0 V c 1 t) (ix2 k q) := by
    show (dat0 V n h c).after 5 t (ix2 k q) = _
    rw [after0_5]
  exact (congrArg ((dat0 V n h c).arrAt 5 cfg0.N) h2).symm.trans (h1.trans h3)

theorem out0_6 (t : Fin cfg0.N) (q : Fin 256) (k : Fin 64) : (dat0 V n h c).arrAt 6 cfg0.N (ix2 (spot points0 t q) k)
    = blockU (F := Ideal) (in0 V c 1 t) (in0 V c 2 t) (in0 V c 4 t) (ix2 q k) := by
  have h1 := (dat0 V n h c).arrAt_emb_eq_flushed 6 (Pipeline.Window.hdisj_of_index_inj win0_6 fun t t' _ _ e => by
    rw [at0_6 t, at0_6 t'] at e
    exact Fin.ext (congrFun e 0)) t (flush0_6 t) (ix2 q k)
  have h2 : (win0_6.blk t).view.emb (ix2 q k) = ix2 (spot points0 t q) k := by blk_ext [at0_6, spot]
  exact (congrArg ((dat0 V n h c).arrAt 6 cfg0.N) h2).symm.trans h1

theorem out0_7 (t : Fin cfg0.N) (q : Fin 256) (k : Fin 128) : (dat0 V n h c).arrAt 7 cfg0.N (ix2 (spot points0 t q) k)
    = blockV (F := Ideal) (in0 V c 1 t) (in0 V c 3 t) (ix2 q k) := by
  have h1 := (dat0 V n h c).arrAt_emb_eq_flushed 7 (Pipeline.Window.hdisj_of_index_inj win0_7 fun t t' _ _ e => by
    rw [at0_7 t, at0_7 t'] at e
    exact Fin.ext (congrFun e 0)) t (flush0_7 t) (ix2 q k)
  have h2 : (win0_7.blk t).view.emb (ix2 q k) = ix2 (spot points0 t q) k := by blk_ext [at0_7, spot]
  exact (congrArg ((dat0 V n h c).arrAt 7 cfg0.N) h2).symm.trans h1

theorem out2_4 (t : Fin cfg2.N) (q : Fin 256) (k : Fin 64) : (dat2 V n h c).arrAt 4 cfg2.N (ix2 (spot points2 t q) k)
    = third (F := Ideal) (in2 V c 0 t) (in2 V c 1 t) (in2 V c 2 t) (in2 V c 3 t) (ix2 q k) := by
  have h1 := (dat2 V n h c).arrAt_emb_eq_flushed 4 (Pipeline.Window.hdisj_of_index_inj win2_4 fun t t' _ _ e => by
    rw [at2_4 t, at2_4 t'] at e
    exact Fin.ext (congrFun e 0)) t (flush2_4 t) (ix2 q k)
  have h2 : (win2_4.blk t).view.emb (ix2 q k) = ix2 (spot points2 t q) k := by blk_ext [at2_4, spot]
  have h3 : (dat2 V n h c).flushed 4 t (ix2 q k) = third (F := Ideal) (in2 V c 0 t) (in2 V c 1 t) (in2 V c 2 t) (in2 V c 3 t) (ix2 q k) := by
    show (dat2 V n h c).after 4 t (ix2 q k) = _
    rw [after2_4]
  exact (congrArg ((dat2 V n h c).arrAt 4 cfg2.N) h2).symm.trans (h1.trans h3)

end Out

/-! ## The blocks' elements -/

/-- `x` times half of one and the error function of `x` over the root of two. -/
def act₁ (x : EReal) : EReal :=
  Ideal.ofBits .f32 0x3F000000#32 * x * (1 + Ideal.erf (x * Ideal.ofBits .f32 0x3F3504F3#32))

theorem blockU_at (x : FVec Ideal S256x64 .f32) (w : FVec Ideal S64x64 .f32) (b : FVec Ideal S1x64 .f32) (q : Fin 256) (j : Fin 64) :
    blockU x w b (ix2 q j) = ∑ k : Fin 64, x (ix2 q k) * w (ix2 k j) + b (ix2 0 j) := by
  pointwise [blockU]

theorem blockV_at (x : FVec Ideal S256x64 .f32) (w : FVec Ideal S64x64 .f32) (q : Fin 256) (j : Fin 64) :
    blockV x w (ix2 q ⟨j.val, by have := j.isLt; omega⟩) = ∑ k : Fin 64, x (ix2 q k) * w (ix2 k j) := by
  pointwise [blockV]

theorem dist_at (i : grid0.Coords) (x : FVec Ideal S8192x64 .f32) (y : FVec Ideal S256x64 .f32) (q : Fin 256) (r : Fin 8192) :
    dist i x y (ix2 r q) = if r.val = 256 * (i 0).val + q.val then ⊤ else
      Ideal.sqrt (max (∑ k : Fin 64, x (ix2 r k) * x (ix2 r k) + ∑ k : Fin 64, y (ix2 q k) * y (ix2 q k)
        - Ideal.ofBits .f32 0x40000000#32 * ∑ k : Fin 64, x (ix2 r k) * y (ix2 q k)) 0) := by
  have e : dist i x y (ix2 r q) = Scalar.select (IntOp.cmpi .eq (BitVec.ofNat 32 r.val)
      (IntOp.addi (Scalar.muli (BitVec.ofNat 32 (i 0).val) 256#32) (BitVec.ofNat 32 q.val))) (Ideal.ofBits .f32 0x7F800000#32)
      (Ideal.sqrt (max (∑ k : Fin 64, x (ix2 r k) * x (ix2 r k) + ∑ k : Fin 64, y (ix2 q k) * y (ix2 q k)
        - Ideal.ofBits .f32 0x40000000#32 * ∑ k : Fin 64, x (ix2 r k) * y (ix2 q k)) 0)) := by
    pointwise [dist, rowNo]
  rw [e, scalarSelect, ofBits_top]
  refine if_congr ((eq_one _ _).trans ?_) rfl rfl
  have hi : (i 0).val < 32 := (i 0).isLt
  have := r.isLt; have := q.isLt
  rw [← BitVec.toNat_inj]
  unfold IntOp.addi Scalar.muli IntOp.muli
  rw [BitVec.toNat_add, BitVec.toNat_mul, BitVec.toNat_ofNat, BitVec.toNat_ofNat, BitVec.toNat_ofNat, BitVec.toNat_ofNat]
  omega

theorem third_at (u : FVec Ideal S256x64 .f32) (g : FVec Ideal S16x256x128 .f32) (w : FVec Ideal S64x64 .f32) (b : FVec Ideal S1x64 .f32)
    (q : Fin 256) (j : Fin 64) :
    third u g w b (ix2 q j) = Finset.univ.fold max ⊥ fun s : Fin 16 =>
      act₁ (∑ k : Fin 64, act₁ (g (ix3 s q ⟨k.val, by have := k.isLt; omega⟩) + u (ix2 q k)) * w (ix2 k j) + b (ix2 0 j)) := by
  rw [← ofBits_bot]
  pointwise [third, act, act₁]
  rfl

end Cert.Proof.Whole

end
-- ==== Proof.Values.lean ====
/-
  The whole program's values: the arrays between its steps read element by element, from the arguments to the result.
-/
module

public import proofs.«01_k».proof.Proof.Reads

@[expose] public section

set_option maxRecDepth 16384

noncomputable section

namespace Cert.Proof.Whole

open Idealize.ShloMosaic Idealize.SL.Sem Cert.KernelIdeal Cert.KernelIdeal.Gen Cert.Proof.Nearest
open Idealize.ShloMosaic.TcCoe
open Cert.Proof.Call (gathered IdxOK)

variable (m : (ℓ : Loc nD τ sig) → Buf (Elt Ideal) ℓ) (c : Dev nD)

/-! ## The arguments -/

def feat : FVec Ideal S1x8192x64 .f32 := m ((c.tc : Thread nD τ).loc main_arg0)
def wOne : FVec Ideal S64x128 .f32 := m ((c.tc : Thread nD τ).loc main_arg1)
def bOne : FVec Ideal S64 .f32 := m ((c.tc : Thread nD τ).loc main_arg2)
def wTwo : FVec Ideal S64x64 .f32 := m ((c.tc : Thread nD τ).loc main_arg3)
def bTwo : FVec Ideal S64 .f32 := m ((c.tc : Thread nD τ).loc main_arg4)

/-! ## Before the first call -/

theorem one_v0 : W₁ m c (Proc.devRef .tc main_v0) = (shapeCast S8192x64 (feat m c) shapeCasts_S1x8192x64_S8192x64 : FVec Ideal S8192x64 .f32) := by
  unfold W₁ ops₁ W₀
  after_results_simp
  rfl

theorem one_v4 : W₁ m c (Proc.devRef .tc main_v4) = (transpose S64x64 [1, 0] (subf
    (extractStridedSlice S64x64 ![0, 0] (wOne m c) slices_S64x128_S64x64_0_0 : FVec Ideal S64x64 .f32)
    (extractStridedSlice S64x64 ![0, 64] (wOne m c) slices_S64x128_S64x64_0_64 : FVec Ideal S64x64 .f32))
      transposes_S64x64_S64x64_1_0 : FVec Ideal S64x64 .f32) := by
  unfold W₁ ops₁ W₀
  after_results_simp
  rfl

theorem one_v5 : W₁ m c (Proc.devRef .tc main_v5) = (transpose S64x64 [1, 0]
    (extractStridedSlice S64x64 ![0, 64] (wOne m c) slices_S64x128_S64x64_0_64 : FVec Ideal S64x64 .f32)
      transposes_S64x64_S64x64_1_0 : FVec Ideal S64x64 .f32) := by
  unfold W₁ ops₁ W₀
  after_results_simp
  rfl

theorem one_v6 : W₁ m c (Proc.devRef .tc main_v6) = (shapeCast S1x64 (bOne m c) shapeCasts_S64_S1x64 : FVec Ideal S1x64 .f32) := by
  unfold W₁ ops₁ W₀
  after_results_simp
  rfl

theorem one_v7 : W₁ m c (Proc.devRef .tc main_v7)
    = (transpose S64x64 [1, 0] (wTwo m c) transposes_S64x64_S64x64_1_0 : FVec Ideal S64x64 .f32) := by
  unfold W₁ ops₁ W₀
  after_results_simp
  rfl

theorem one_v8 : W₁ m c (Proc.devRef .tc main_v8) = (shapeCast S1x64 (bTwo m c) shapeCasts_S64_S1x64 : FVec Ideal S1x64 .f32) := by
  unfold W₁ ops₁ W₀
  after_results_simp
  rfl

theorem v0_at (r : Fin 8192) (k : Fin 64) : atRefs (W₁ m) c main_v0 (ix2 r k) = feat m c (ix3 0 r k) := by
  show W₁ m c (Proc.devRef .tc main_v0) (ix2 r k) = _
  rw [one_v0]
  pointwise

theorem v4_at (k j : Fin 64) : atRefs (W₁ m) c main_v4 (ix2 k j)
    = wOne m c (ix2 j ⟨k.val, by have := k.isLt; omega⟩) - wOne m c (ix2 j ⟨64 + k.val, by have := k.isLt; omega⟩) := by
  show W₁ m c (Proc.devRef .tc main_v4) (ix2 k j) = _
  rw [one_v4]
  pointwise

theorem v5_at (k j : Fin 64) : atRefs (W₁ m) c main_v5 (ix2 k j) = wOne m c (ix2 j ⟨64 + k.val, by have := k.isLt; omega⟩) := by
  show W₁ m c (Proc.devRef .tc main_v5) (ix2 k j) = _
  rw [one_v5]
  pointwise

theorem v6_at (j : Fin 64) : atRefs (W₁ m) c main_v6 (ix2 0 j) = bOne m c (ix1 j) := by
  show W₁ m c (Proc.devRef .tc main_v6) (ix2 0 j) = _
  rw [one_v6]
  pointwise

theorem v7_at (k j : Fin 64) : W₁ m c (Proc.devRef .tc main_v7) (ix2 k j) = wTwo m c (ix2 j k) := by
  rw [one_v7]
  pointwise

theorem v8_at (j : Fin 64) : W₁ m c (Proc.devRef .tc main_v8) (ix2 0 j) = bTwo m c (ix1 j) := by
  rw [one_v8]
  pointwise

/-! ## After the first call -/

/-- The share of a centre row in the edge layer. -/
def centre (r : Fin 8192) (j : Fin 64) : EReal :=
  ∑ k : Fin 64, feat m c (ix3 0 r k) * (wOne m c (ix2 j ⟨k.val, by have := k.isLt; omega⟩) - wOne m c (ix2 j ⟨64 + k.val, by have := k.isLt; omega⟩))
    + bOne m c (ix1 j)

/-- The share of a neighbour row in the edge layer. -/
def other (r : Fin 8192) (j : Fin 64) : EReal :=
  ∑ k : Fin 64, feat m c (ix3 0 r k) * wOne m c (ix2 j ⟨64 + k.val, by have := k.isLt; omega⟩)

/-- The distance between two rows, infinite from a row to itself. -/
def apartness (r r' : Fin 8192) : EReal :=
  if r'.val = r.val then ⊤ else
    Ideal.sqrt (max (∑ k : Fin 64, feat m c (ix3 0 r' k) * feat m c (ix3 0 r' k) + ∑ k : Fin 64, feat m c (ix3 0 r k) * feat m c (ix3 0 r k)
      - Ideal.ofBits .f32 0x40000000#32 * ∑ k : Fin 64, feat m c (ix3 0 r' k) * feat m c (ix3 0 r k)) 0)

/-- The distances of a row, by row number. -/
def farOf (r : Fin 8192) (r' : ℕ) : EReal := if h : r' < 8192 then apartness m c r ⟨r', h⟩ else ⊤

theorem two_u (r : Fin 8192) (j : Fin 64) : W₂ m c (Proc.devRef .tc main_v9_1) (ix2 r j) = centre m c r j := by
  obtain ⟨t, q, rfl⟩ := exists_spot points0 r
  have h := congrFun (arr0_out m c 6) (ix2 (spot points0 t q) j)
  refine h.symm.trans ((out0_6 (atRefs (W₁ m)) 0 0 c t q j).trans ?_)
  rw [blockU_at]
  unfold centre
  refine congrArg₂ (· + ·) (Finset.sum_congr rfl fun k _ => ?_) ?_
  · exact congrArg₂ (· * ·) ((in0_1 _ c t q k).trans (v0_at m c _ k)) ((in0_2 _ c t k j).trans (v4_at m c k j))
  · exact (in0_4 _ c t j).trans (v6_at m c j)

theorem two_v (r : Fin 8192) (j : Fin 64) :
    W₂ m c (Proc.devRef .tc main_v9_2) (ix2 r ⟨j.val, by have := j.isLt; omega⟩) = other m c r j := by
  obtain ⟨t, q, rfl⟩ := exists_spot points0 r
  have h := congrFun (arr0_out m c 7) (ix2 (spot points0 t q) ⟨j.val, by have := j.isLt; omega⟩)
  refine h.symm.trans ((out0_7 (atRefs (W₁ m)) 0 0 c t q ⟨j.val, by have := j.isLt; omega⟩).trans ((blockV_at _ _ q j).trans ?_))
  unfold other
  refine Finset.sum_congr rfl fun k _ => ?_
  exact congrArg₂ (fun x y : EReal => x * y) ((in0_1 _ c t q k).trans (v0_at m c _ k)) ((in0_3 _ c t k j).trans (v5_at m c k j))

theorem cast_whole (x : FVec Ideal S8192x64 .f32) : shapeCast S8192x64 x shapeCasts_S8192x64_S8192x64 = x :=
  funext fun j => by rw [eq_ix2 j]; pointwise

theorem cast_block (x : FVec Ideal S256x64 .f32) : shapeCast S256x64 x shapeCasts_S256x64_S256x64 = x :=
  funext fun j => by rw [eq_ix2 j]; pointwise

/-- The rows the first call names for row `r` are a best choice, where its distances have a nearest sixteen. -/
theorem two_i {N : Finset ℕ} (r : Fin 8192) (hD : Apart (farOf m c r) N) :
    ∃ S : ℕ → ℕ, Best (farOf m c r) S ∧ ∀ k : Fin 16, (W₂ m c (Proc.devRef .tc main_v9_0) (ix2 k r) : BitVec 32).toNat = S k.val := by
  obtain ⟨t, q, rfl⟩ := exists_spot points0 r
  have hfar : far (dist (F := Ideal) (grid0.coords t) (shapeCast S8192x64 (in0 (atRefs (W₁ m)) c 0 t) shapeCasts_S8192x64_S8192x64)
      (shapeCast S256x64 (in0 (atRefs (W₁ m)) c 1 t) shapeCasts_S256x64_S256x64)) q = farOf m c (spot points0 t q) := by
    funext r'
    unfold far farOf
    split
    · rename_i hr'
      rw [dist_at, cast_whole, cast_block, coord0 t]
      unfold apartness
      have e1 : ∀ k, in0 (atRefs (W₁ m)) c 0 t (ix2 ⟨r', hr'⟩ k) = feat m c (ix3 0 ⟨r', hr'⟩ k) := fun k =>
        (in0_0 _ c t _ k).trans (v0_at m c _ k)
      have e2 : ∀ k, in0 (atRefs (W₁ m)) c 1 t (ix2 q k) = feat m c (ix3 0 (spot points0 t q) k) := fun k =>
        (in0_1 _ c t q k).trans (v0_at m c _ k)
      refine if_congr Iff.rfl rfl ?_
      refine congrArg (fun x => Ideal.sqrt (max x 0)) (congrArg₂ (· - ·) (congrArg₂ (· + ·) (Finset.sum_congr rfl fun k _ => ?_)
        (Finset.sum_congr rfl fun k _ => ?_)) (congrArg _ (Finset.sum_congr rfl fun k _ => ?_)))
      · exact congrArg₂ (· * ·) (e1 k) (e1 k)
      · exact congrArg₂ (· * ·) (e2 k) (e2 k)
      · exact congrArg₂ (· * ·) (e1 k) (e2 k)
    · rfl
  obtain ⟨S, hS, hk⟩ := block_best _ q (hfar ▸ hD)
  refine ⟨S, hfar ▸ hS, fun k => ?_⟩
  have h := congrFun (arr0_out m c 5) (ix2 k (spot points0 t q))
  exact (congrArg BitVec.toNat (h.symm.trans (out0_5 (atRefs (W₁ m)) 0 0 c t k q))).trans (hk k)

/-! ## Between the calls -/

/-- Of the three steps between the calls only their own results change. -/
theorem five_rest (b : Ref sig .tc) (h10 : b ≠ main_v10) (h11 : b ≠ main_v11) (h12 : b ≠ main_v12) :
    W₅ m c (Proc.devRef .tc b) = W₂ m c (Proc.devRef .tc b) := by
  have hne : ∀ b' : Ref sig .tc, b ≠ b' → Proc.devRef (τ := τ) .tc b ≠ Proc.devRef .tc b' := fun b' h e => h (Proc.devRef_injective _ e)
  have e1 : W₅ m c (Proc.devRef .tc b) = W₄ m c (Proc.devRef .tc b) :=
    opRows.result_of_not_mem (W₄ m c) fun hb => hne _ h12 (Finset.mem_singleton.mp hb)
  have e2 : W₄ m c (Proc.devRef .tc b) = W₃ m c (Proc.devRef .tc b) := Function.update_of_ne (hne _ h11) ..
  have e3 : W₃ m c (Proc.devRef .tc b) = W₂ m c (Proc.devRef .tc b) :=
    opIdx.result_of_not_mem (W₂ m c) fun hb => hne _ h10 (Finset.mem_singleton.mp hb)
  exact e1.trans (e2.trans e3)

theorem four_v7 : W₅ m c (Proc.devRef .tc main_v7) = W₁ m c (Proc.devRef .tc main_v7) := by
  exact (five_rest m c main_v7 (by decide) (by decide) (by decide)).trans (rest0 m c main_v7 (by decide))

theorem four_v8 : W₅ m c (Proc.devRef .tc main_v8) = W₁ m c (Proc.devRef .tc main_v8) := by
  exact (five_rest m c main_v8 (by decide) (by decide) (by decide)).trans (rest0 m c main_v8 (by decide))

theorem five_u : W₅ m c (Proc.devRef .tc main_v9_1) = W₂ m c (Proc.devRef .tc main_v9_1) := by
  exact five_rest m c main_v9_1 (by decide) (by decide) (by decide)

theorem three_v : W₃ m c (Proc.devRef .tc main_v9_2) = W₂ m c (Proc.devRef .tc main_v9_2) := by
  unfold W₃ opIdx
  after_results_simp

theorem three_i : W₃ m c (Proc.devRef .tc main_v10)
    = (shapeCast S131072 (W₂ m c (Proc.devRef .tc main_v9_0) : IVec S16x8192 32) shapeCasts_S16x8192_S131072 : IVec S131072 32) := by
  unfold W₃ opIdx
  after_results_simp
  rfl

theorem five_g : W₅ m c (Proc.devRef .tc main_v12)
    = (shapeCast S16x8192x128 (gathered (cTab m c) (cIdx m c) : FVec Ideal S131072x128 .f32) shapeCasts_S131072x128_S16x8192x128
        : FVec Ideal S16x8192x128 .f32) := by
  unfold W₅ W₄ opRows
  after_results_simp
  rfl

/-- The place of the `s`-th neighbour of row `r` in the flat list. -/
def place (s : Fin 16) (r : Fin 8192) : Fin 131072 := ⟨8192 * s.val + r.val, by have := s.isLt; have := r.isLt; omega⟩

theorem idx_at (s : Fin 16) (r : Fin 8192) : cIdx m c (ix1 (place s r)) = W₂ m c (Proc.devRef .tc main_v9_0) (ix2 s r) := by
  show W₃ m c (Proc.devRef .tc main_v10) _ = _
  rw [three_i]
  pointwise [place]

theorem gathered_at (g : FVec Ideal S131072x128 .f32) (s : Fin 16) (r : Fin 8192) (k : Fin 128) :
    shapeCast S16x8192x128 g shapeCasts_S131072x128_S16x8192x128 (ix3 s r k) = g (ix2 (place s r) k) := by
  pointwise [place]
  exact congrArg g (congrArg (fun x => ix2 x k) (Fin.ext (by show s.val * 8192 + r.val = 8192 * s.val + r.val; omega)))

theorem exists_place (j : Fin 131072) : ∃ s r, j = place s r :=
  ⟨⟨j.val / 8192, by have := j.isLt; omega⟩, ⟨j.val % 8192, Nat.mod_lt _ (by decide)⟩,
    Fin.ext (by show j.val = 8192 * (j.val / 8192) + j.val % 8192; omega)⟩

/-- The rows the first call names all exist. -/
theorem idx_ok (hD : ∀ d r, ∃ N, Apart (farOf m d r) N) : IdxOK (cIdx m) := by
  intro d j
  obtain ⟨s, r, e⟩ := exists_place (j 0)
  obtain ⟨N, hN⟩ := hD d r
  obtain ⟨S, hS, hk⟩ := two_i m d r hN
  have hj : j = ix1 (place s r) := by rw [← e]; exact eq_ix1 j
  rw [hj, idx_at, hk s]
  exact hS.lt s.val s.isLt

/-- The row gathered for the `s`-th neighbour of row `r`. -/
theorem five_at (s : Fin 16) (r r' : Fin 8192) (j : Fin 64) (hr : (W₂ m c (Proc.devRef .tc main_v9_0) (ix2 s r) : BitVec 32).toNat = r'.val) :
    W₅ m c (Proc.devRef .tc main_v12) (ix3 s r ⟨j.val, by have := j.isLt; omega⟩) = other m c r' j := by
  rw [five_g, gathered_at]
  have h1 : (cIdx m c (ix1 (place s r)) : BitVec 32).toNat % 8192 = r'.val := by
    rw [idx_at, hr]
    exact Nat.mod_eq_of_lt r'.isLt
  have h2 : (⟨(cIdx m c (ix1 (place s r)) : BitVec 32).toNat % 8192, Nat.mod_lt _ (by decide)⟩ : Fin 8192) = r' := Fin.ext h1
  show cTab m c (ix2 (⟨(cIdx m c (ix1 (place s r)) : BitVec 32).toNat % 8192, _⟩ : Fin 8192) _) = _
  rw [h2]
  exact (congrFun (three_v m c) _).trans (two_v m c r' j)

/-! ## The result -/

/-- What a neighbour `r'` of row `r` brings to the result at column `j`. -/
def brought (r r' : Fin 8192) (j : Fin 64) : EReal :=
  act₁ (∑ k : Fin 64, act₁ (other m c r' k + centre m c r k) * wTwo m c (ix2 j k) + bTwo m c (ix1 j))

theorem seven_out : W₇ m c (Proc.devRef .tc main_v14)
    = (shapeCast S1x8192x64 (W₆ m c (Proc.devRef .tc main_v13) : FVec Ideal S8192x64 .f32) shapeCasts_S8192x64_S1x8192x64
        : FVec Ideal S1x8192x64 .f32) := by
  unfold W₇ opOut
  after_results_simp
  rfl

/-- The result at row `r` and column `j`: the largest of what the sixteen chosen rows bring. -/
theorem seven_at {N : Finset ℕ} (r : Fin 8192) (j : Fin 64) (hD : Apart (farOf m c r) N) :
    ∃ σ : Fin 16 → Fin 8192, (Finset.univ.image fun k => (σ k).val) = N
      ∧ W₇ m c (Proc.devRef .tc main_v14) (ix3 0 r j) = Finset.univ.fold max ⊥ fun s : Fin 16 => brought m c r (σ s) j := by
  obtain ⟨S, hS, hk⟩ := two_i m c r hD
  refine ⟨fun s => ⟨S s.val, hS.lt s.val s.isLt⟩, ?_, ?_⟩
  · rw [← hS.chosen_eq hD]
    ext x
    simp only [mem_chosen, Finset.mem_image, Finset.mem_univ, true_and]
    exact ⟨fun ⟨k, e⟩ => ⟨k.val, k.isLt, e⟩, fun ⟨k, hk, e⟩ => ⟨⟨k, hk⟩, e⟩⟩
  · have h0 : W₇ m c (Proc.devRef .tc main_v14) (ix3 0 r j) = W₆ m c (Proc.devRef .tc main_v13) (ix2 r j) := by
      rw [seven_out]
      pointwise
    rw [h0]
    obtain ⟨t, q, rfl⟩ := exists_spot points2 r
    have h := congrFun (arr2_out m c 4) (ix2 (spot points2 t q) j)
    refine h.symm.trans ((out2_4 (atRefs (W₅ m)) 1 8 c t q j).trans ((third_at _ _ _ _ q j).trans ?_))
    refine Finset.fold_congr fun s _ => ?_
    unfold brought
    refine congrArg act₁ (congrArg₂ (fun x y : EReal => x + y) (Finset.sum_congr rfl fun k _ =>
      congrArg₂ (fun x y : EReal => x * y) (congrArg act₁ (congrArg₂ (fun x y : EReal => x + y) ?_ ?_)) ?_) ?_)
    · exact (in2_1 _ c t s q _).trans (five_at m c s _ _ k (hk s))
    · exact ((in2_0 _ c t q k).trans (congrFun (five_u m c) _)).trans (two_u m c _ k)
    · exact ((in2_2 _ c t k j).trans (congrFun (four_v7 m c) _)).trans (v7_at m c k j)
    · exact ((in2_3 _ c t j).trans (congrFun (four_v8 m c) _)).trans (v8_at m c j)

/-! ## The arguments at the end -/

theorem seven_arg (b : Ref sig .tc) (h : b ∈ ([main_arg0, main_arg1, main_arg2, main_arg3, main_arg4] : List (Ref sig .tc))) :
    W₇ m c (Proc.devRef .tc b) = m (c, Proc.devRef .tc b) := by
  have e1 : W₇ m c (Proc.devRef .tc b) = W₆ m c (Proc.devRef .tc b) := by
    simp only [List.mem_cons, List.not_mem_nil, or_false] at h
    unfold W₇ opOut
    rcases h with rfl | rfl | rfl | rfl | rfl <;> after_results_simp
  have e2 : W₆ m c (Proc.devRef .tc b) = W₅ m c (Proc.devRef .tc b) := by
    refine rest2 m c b ?_
    simp only [List.mem_cons, List.not_mem_nil, or_false] at h
    rcases h with rfl | rfl | rfl | rfl | rfl <;> decide
  have e3 : W₅ m c (Proc.devRef .tc b) = W₂ m c (Proc.devRef .tc b) := by
    simp only [List.mem_cons, List.not_mem_nil, or_false] at h
    refine five_rest m c b ?_ ?_ ?_ <;> rcases h with rfl | rfl | rfl | rfl | rfl <;> decide
  have e4 : W₂ m c (Proc.devRef .tc b) = W₁ m c (Proc.devRef .tc b) := by
    refine rest0 m c b ?_
    simp only [List.mem_cons, List.not_mem_nil, or_false] at h
    rcases h with rfl | rfl | rfl | rfl | rfl <;> decide
  have e5 : W₁ m c (Proc.devRef .tc b) = m (c, Proc.devRef .tc b) := by
    simp only [List.mem_cons, List.not_mem_nil, or_false] at h
    unfold W₁ ops₁ W₀
    rcases h with rfl | rfl | rfl | rfl | rfl <;> after_results_simp
  exact e1.trans (e2.trans (e3.trans (e4.trans e5)))

end Cert.Proof.Whole

end
-- ==== Proof.Reference.lean ====
/-
  The reference's result read element by element: its distances, the order its top-k sorts a row's distances into, the
  rows it gathers, its two layers and the largest over the neighbours.
-/
module

public import proofs.«01_k».proof.Proof.Words
public import proofs.«01_k».proof.Proof.Reads
public import proofs.«01_k».proof.Proof.Gen.ReferenceIdeal
public import proofs.«01_k».proof.Proof.Gen.ReferenceIdeal.Run
public import Idealize.ShloMosaic.Lib.SortFacts
public import Idealize.ShloMosaic.Lib.StableHlo.Predicate

@[expose] public section

set_option maxRecDepth 16384

noncomputable section

namespace Cert.Proof.Reference

open Idealize.ShloMosaic Idealize.SL.Sem Cert.ReferenceIdeal Cert.ReferenceIdeal.Gen
open Cert.Proof.Whole (act₁ scalarSelect ofBits_top ofBits_bot)

variable (X : FVec Ideal S1x8192x64 .f32) (W : FVec Ideal S64x128 .f32) (b : FVec Ideal S64 .f32)
  (W' : FVec Ideal S64x64 .f32) (b' : FVec Ideal S64 .f32)

/-! ## The distances and their order -/

def sums : FVec Ideal S1x8192 .f32 :=
  Host.reduceAdd (mulf X X) (constant S_ .f32 0x00000000#32) reducesTo_S1x8192x64_S1x8192_d2 h_S_

/-- The distances with their signs turned, infinite on the diagonal: what the top-k sorts. -/
def turned : FVec Ideal S1x8192x8192 .f32 :=
  Host.negf (select
    (broadcastInDim S1x8192x8192 ![1, 2] bcast_S8192x8192_S1x8192x8192_1_2
      (cmpi .eq (addi (iotaInDim S8192x8192 32 0) (broadcastInDim S8192x8192 ![] bcast_S_S8192x8192 (constantI S_ 32 0#32))) (iotaInDim S8192x8192 32 1)))
    (broadcastInDim S1x8192x8192 ![] bcast_S_S1x8192x8192 (constant S_ .f32 0x7F800000#32))
    (Host.sqrt (maximumf
      (subf
        (addf (broadcastInDim S1x8192x8192 ![0, 1, 2] bcast_S1x8192x1_S1x8192x8192_0_1_2 (broadcastInDim S1x8192x1 ![0, 1] bcast_S1x8192_S1x8192x1_0_1 (sums X)))
          (broadcastInDim S1x8192x8192 ![0, 1, 2] bcast_S1x1x8192_S1x8192x8192_0_1_2 (broadcastInDim S1x1x8192 ![0, 2] bcast_S1x8192_S1x1x8192_0_2 (sums X))))
        (mulf (broadcastInDim S1x8192x8192 ![] bcast_S_S1x8192x8192 (constant S_ .f32 0x40000000#32))
          (Host.dotGeneral dot_S1x8192x64_S1x8192x64_S1x8192x8192_2_2_1_1_0_0 none X X)))
      (broadcastInDim S1x8192x8192 ![] bcast_S_S1x8192x8192 (constant S_ .f32 0x00000000#32)))))

/-- The distance between two rows, infinite from a row to itself. -/
def between (r r' : Fin 8192) : EReal :=
  if r'.val = r.val then ⊤ else
    Ideal.sqrt (max (∑ k : Fin 64, X (ix3 0 r' k) * X (ix3 0 r' k) + ∑ k : Fin 64, X (ix3 0 r k) * X (ix3 0 r k)
      - Ideal.ofBits .f32 0x40000000#32 * ∑ k : Fin 64, X (ix3 0 r' k) * X (ix3 0 r k)) 0)

theorem word_eq (r r' : Fin 8192) :
    IntOp.cmpi .eq (IntOp.addi (BitVec.ofNat 32 r.val) 0#32) (BitVec.ofNat 32 r'.val) = 1#1 ↔ r'.val = r.val := by
  have h : IntOp.cmpi .eq (IntOp.addi (BitVec.ofNat 32 r.val) 0#32) (BitVec.ofNat 32 r'.val)
      = BitVec.ofBool (decide (BitVec.ofNat 32 r.val + 0#32 = BitVec.ofNat 32 r'.val)) := rfl
  rw [h, Cert.Proof.Whole.ofBool_one, decide_eq_true_iff, BitVec.add_zero, BitVec.toNat_eq, BitVec.toNat_ofNat, BitVec.toNat_ofNat]
  have := r.isLt
  have := r'.isLt
  omega

theorem turned_at (r r' : Fin 8192) : turned X (ix3 0 r r') = -between X r r' := by
  pointwise [turned, sums]
  rw [scalarSelect, ofBits_top]
  refine congrArg (fun x : EReal => -x) ?_
  unfold between
  refine if_congr (word_eq r r') rfl ?_
  refine congrArg (fun x => Ideal.sqrt (max x 0)) (congrArg₂ (fun x y : EReal => x - y) (add_comm _ _) ?_)
  exact congrArg _ (Finset.sum_congr rfl fun k _ => mul_comm _ _)

/-- The order the top-k puts the rows in, seen from row `r`. -/
def order (r : Fin 8192) : Fin 8192 → Fin 8192 :=
  sortedFrom fun k k' => FloatOps.cmpfTotal (F := Ideal) (φ := .f32) .gt (turned X (ix3 0 r k)) (turned X (ix3 0 r k')) == 1#1

theorem order_injective (r : Fin 8192) : Function.Injective (order X r) := sortedFrom_injective _
theorem order_surjective (r : Fin 8192) : Function.Surjective (order X r) := sortedFrom_surjective _

theorem before_iff (r k k' : Fin 8192) :
    (FloatOps.cmpfTotal (F := Ideal) (φ := .f32) .gt (turned X (ix3 0 r k)) (turned X (ix3 0 r k')) == 1#1) = true
      ↔ between X r k < between X r k' := by
  rw [beq_iff_eq, turned_at, turned_at]
  have h : FloatOps.cmpfTotal (F := Ideal) (φ := .f32) .gt (-between X r k) (-between X r k')
      = BitVec.ofBool (decide (-between X r k' < -between X r k)) := rfl
  rw [h, Cert.Proof.Whole.ofBool_one, decide_eq_true_iff, EReal.neg_lt_neg_iff]

/-- Nearer rows come first. -/
theorem order_sorted (r : Fin 8192) {i j : Fin 8192} (h : i < j) : between X r (order X r i) ≤ between X r (order X r j) := by
  have hB : ∀ a b : Fin 8192, ((FloatOps.cmpfTotal (F := Ideal) (φ := .f32) .gt (turned X (ix3 0 r a)) (turned X (ix3 0 r b)) == 1#1) = false
      ↔ between X r b ≤ between X r a) := fun a b => by
    rw [Bool.eq_false_iff, ne_eq, before_iff, not_lt]
  have h := sortedFrom_noInversion
    (fun k k' => FloatOps.cmpfTotal (F := Ideal) (φ := .f32) .gt (turned X (ix3 0 r k)) (turned X (ix3 0 r k')) == 1#1)
    (fun k k' => FloatOps.cmpfTotal (F := Ideal) (φ := .f32) .gt (turned X (ix3 0 r k)) (turned X (ix3 0 r k')) == 1#1)
    (fun a b h => (hB b a).mpr (le_of_lt ((before_iff X r a b).mp h))) (fun _ _ h => h)
    (fun a b c h1 h2 => (hB a c).mpr (((hB b c).mp h2).trans ((hB a b).mp h1))) i j h
  exact (hB _ _).mp h

theorem along_row (r : Fin 8192) (s k : Fin 8192) :
    Shape.Idx.along (s := ⟨3, ![1, 8192, 8192]⟩) (ix3 0 r s) 2 k = ix3 0 r k := by
  funext a
  fin_cases a <;> rfl

/-- The places of a top-k of a row. -/
theorem places_at (r : Fin 8192) (s : Fin 16) :
    (Host.topK S1x8192x16 2 (FloatOps.cmpfTotal .gt) (turned X) sliceFits_S1x8192x8192_S1x8192x16).2 (ix3 0 r s)
      = BitVec.ofNat 32 (order X r ⟨s.val, by have := s.isLt; omega⟩).val := by
  unfold Host.topK Host.sort2
  pointwise
  unfold order
  simp only [along_row]
  rfl

/-! ## The rows gathered -/

theorem gather_at (I : IVec S1x8192x16x1 32) (r : Fin 8192) (s : Fin 16) (k : Fin 64) (r' : Fin 8192)
    (h : I (ix4 0 r s 0) = BitVec.ofNat 32 r'.val) :
    Host.gather gather_S1x8192x64_S1x8192x16x1_S1x8192x16x64_3_1_0_0_1_3_1164 X I (ix4 0 r s k) = X (ix3 0 r' k) := by
  unfold Host.gather
  refine congrArg X (funext fun a => Fin.ext ?_)
  have hs : gather_S1x8192x64_S1x8192x16x1_S1x8192x16x64_3_1_0_0_1_3_1164.siIdx (ix4 0 r s k) ⟨0, by decide⟩ = ix4 0 r s 0 := by
    funext b
    fin_cases b <;> rfl
  match a with
  | ⟨0, _⟩ => rfl
  | ⟨1, _⟩ =>
    show (min (I (gather_S1x8192x64_S1x8192x16x1_S1x8192x16x64_3_1_0_0_1_3_1164.siIdx (ix4 0 r s k) ⟨0, by decide⟩)).toInt.toNat 8191) + 0 + 0 = r'.val
    rw [hs, h, StableHlo.Predicate.toInt_ofNat_small _ (by have := r'.isLt; omega)]
    have := r'.isLt
    omega
  | ⟨2, _⟩ =>
    show 0 + 0 + k.val = k.val
    omega

/-- The places as the gather takes them: a negative one counted from the end. -/
def wrapped (I : IVec S1x8192x16 32) : IVec S1x8192x16x1 32 :=
  broadcastInDim S1x8192x16x1 ![0, 1, 2] bcast_S1x8192x16_S1x8192x16x1_0_1_2
    (select (cmpi .slt I (broadcastInDim S1x8192x16 ![] bcast_S_S1x8192x16 (constantI S_ 32 0#32)))
      (addi I (broadcastInDim S1x8192x16 ![] bcast_S_S1x8192x16 (constantI S_ 32 8192#32))) I)

theorem wrapped_at (I : IVec S1x8192x16 32) (r : Fin 8192) (s : Fin 16) (r' : Fin 8192) (h : I (ix3 0 r s) = BitVec.ofNat 32 r'.val) :
    wrapped I (ix4 0 r s 0) = BitVec.ofNat 32 r'.val := by
  pointwise [wrapped]
  rw [scalarSelect, h, if_neg]
  have e : IntOp.cmpi .slt (BitVec.ofNat 32 r'.val) 0#32 = BitVec.ofBool ((BitVec.ofNat 32 r'.val).slt 0#32) := rfl
  rw [e, Cert.Proof.Whole.ofBool_one, BitVec.slt_eq_decide, decide_eq_true_iff, StableHlo.Predicate.toInt_ofNat_small _ (by have := r'.isLt; omega)]
  simp

/-! ## The two layers -/

/-- The rows of the edges: the centre's row, and the neighbour's less the centre's. -/
def edges (G : FVec Ideal S1x8192x16x64 .f32) : FVec Ideal S1x8192x16x128 .f32 :=
  concatenate S1x8192x16x128 3
    [⟨S1x8192x16x64, (broadcastInDim S1x8192x16x64 ![0, 1, 2, 3] bcast_S1x8192x1x64_S1x8192x16x64_0_1_2_3
        (broadcastInDim S1x8192x1x64 ![0, 1, 3] bcast_S1x8192x64_S1x8192x1x64_0_1_3 X))⟩,
      ⟨S1x8192x16x64, (subf G (broadcastInDim S1x8192x16x64 ![0, 1, 2, 3] bcast_S1x8192x1x64_S1x8192x16x64_0_1_2_3
        (broadcastInDim S1x8192x1x64 ![0, 1, 3] bcast_S1x8192x64_S1x8192x1x64_0_1_3 X)))⟩]
    concatenates_S1x8192x16x64_S1x8192x16x64_S1x8192x16x128_d3

def acted (z : FVec Ideal S1x8192x16x64 .f32) : FVec Ideal S1x8192x16x64 .f32 :=
  mulf (mulf (broadcastInDim S1x8192x16x64 ![] bcast_S_S1x8192x16x64 (constant S_ .f32 0x3F000000#32)) z)
    (Host.erfc (mulf (Host.negf z) (broadcastInDim S1x8192x16x64 ![] bcast_S_S1x8192x16x64 (constant S_ .f32 0x3F3504F3#32))))

def layer (E : FVec Ideal S1x8192x16x128 .f32) : FVec Ideal S1x8192x16x64 .f32 :=
  addf (Host.dotGeneral dot_S1x8192x16x128_S128x64_S1x8192x16x64_3_0_012_1_n_n none E
      (transpose S128x64 [1, 0] W transposes_S64x128_S128x64_1_0))
    (broadcastInDim S1x8192x16x64 ![0, 1, 2, 3] bcast_S1x1x1x64_S1x8192x16x64_0_1_2_3 (broadcastInDim S1x1x1x64 ![3] bcast_S64_S1x1x1x64_3 b))

def layer' (H : FVec Ideal S1x8192x16x64 .f32) : FVec Ideal S1x8192x16x64 .f32 :=
  addf (Host.dotGeneral dot_S1x8192x16x64_S64x64_S1x8192x16x64_3_0_012_1_n_n none H
      (transpose S64x64 [1, 0] W' transposes_S64x64_S64x64_1_0))
    (broadcastInDim S1x8192x16x64 ![0, 1, 2, 3] bcast_S1x1x1x64_S1x8192x16x64_0_1_2_3 (broadcastInDim S1x1x1x64 ![3] bcast_S64_S1x1x1x64_3 b'))

def largest (Z : FVec Ideal S1x8192x16x64 .f32) : FVec Ideal S1x8192x64 .f32 :=
  Host.reduce FloatOps.maximumf Z (constant S_ .f32 0xFF800000#32) reducesTo_S1x8192x16x64_S1x8192x64_d2 h_S_

/-- The whole result from the arguments. -/
def result : FVec Ideal S1x8192x64 .f32 :=
  largest (acted (layer' W' b' (acted (layer W b (edges X (Host.gather gather_S1x8192x64_S1x8192x16x1_S1x8192x16x64_3_1_0_0_1_3_1164 X
    (wrapped (Host.topK S1x8192x16 2 (FloatOps.cmpfTotal .gt) (turned X) sliceFits_S1x8192x8192_S1x8192x16).2)))))))

theorem res_eq (m : (ℓ : Loc nD τ sig) → Buf (Elt Ideal) ℓ) (c : Dev nD) :
    Value.res_main_v57 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v57
  rfl

theorem edges_at (G : FVec Ideal S1x8192x16x64 .f32) (r : Fin 8192) (s : Fin 16) (k : Fin 128) :
    edges X G (ix4 0 r s k) = if h : k.val < 64 then X (ix3 0 r ⟨k.val, h⟩)
      else G (ix4 0 r s ⟨k.val - 64, by have := k.isLt; omega⟩) - X (ix3 0 r ⟨k.val - 64, by have := k.isLt; omega⟩) := by
  pointwise [edges]

theorem acted_at (z : FVec Ideal S1x8192x16x64 .f32) (r : Fin 8192) (s : Fin 16) (k : Fin 64) :
    acted z (ix4 0 r s k) = act₁ (z (ix4 0 r s k)) := by
  pointwise [acted, act₁]
  rw [EReal.neg_mul, Ideal.erfc_neg]

theorem layer_at (E : FVec Ideal S1x8192x16x128 .f32) (r : Fin 8192) (s : Fin 16) (j : Fin 64) :
    layer W b E (ix4 0 r s j) = ∑ k : Fin 128, E (ix4 0 r s k) * W (ix2 j k) + b (ix1 j) := by
  pointwise [layer]

theorem layer'_at (H : FVec Ideal S1x8192x16x64 .f32) (r : Fin 8192) (s : Fin 16) (j : Fin 64) :
    layer' W' b' H (ix4 0 r s j) = ∑ k : Fin 64, H (ix4 0 r s k) * W' (ix2 j k) + b' (ix1 j) := by
  pointwise [layer']

theorem largest_at (Z : FVec Ideal S1x8192x16x64 .f32) (r : Fin 8192) (j : Fin 64) :
    largest Z (ix3 0 r j) = Finset.univ.fold max ⊥ fun s : Fin 16 => Z (ix4 0 r s j) := by
  rw [← ofBits_bot]
  pointwise [largest]

/-! ## The first layer, over finite arrays -/

theorem split_sum (f : Fin 128 → EReal) : ∑ k : Fin 128, f k
    = ∑ k : Fin 64, f ⟨k.val, by have := k.isLt; omega⟩ + ∑ k : Fin 64, f ⟨64 + k.val, by have := k.isLt; omega⟩ :=
  Fin.sum_univ_add (M := EReal) (a := 64) (b := 64) f

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The edge layer over a concatenated row is the sum of a neighbour's share and its centre's. -/
theorem shares {n : ℕ} (x y w v : Fin n → ℝ) (β : EReal) :
    ∑ k, (x k : EReal) * (w k : EReal) + ∑ k, ((y k : EReal) - (x k : EReal)) * (v k : EReal) + β
      = ∑ k, (y k : EReal) * (v k : EReal) + (∑ k, (x k : EReal) * ((w k : EReal) - (v k : EReal)) + β) := by
  simp only [← EReal.coe_mul, ← EReal.coe_sub, ← coe_sum]
  rw [← add_assoc, ← EReal.coe_add, ← EReal.coe_add]
  refine congrArg (fun t : ℝ => (t : EReal) + β) ?_
  rw [← Finset.sum_add_distrib, ← Finset.sum_add_distrib]
  exact Finset.sum_congr rfl fun k _ => by ring

/-- The share of a centre row in the edge layer. -/
def centre (r : Fin 8192) (j : Fin 64) : EReal :=
  ∑ k : Fin 64, X (ix3 0 r k) * (W (ix2 j ⟨k.val, by have := k.isLt; omega⟩) - W (ix2 j ⟨64 + k.val, by have := k.isLt; omega⟩)) + b (ix1 j)

/-- The share of a neighbour row in the edge layer. -/
def other (r : Fin 8192) (j : Fin 64) : EReal :=
  ∑ k : Fin 64, X (ix3 0 r k) * W (ix2 j ⟨64 + k.val, by have := k.isLt; omega⟩)

/-- What a neighbour `r'` of row `r` brings to the result at column `j`. -/
def brought (r r' : Fin 8192) (j : Fin 64) : EReal :=
  act₁ (∑ k : Fin 64, act₁ (other X W r' k + centre X W b r k) * W' (ix2 j k) + b' (ix1 j))

theorem first_layer (x : Fin 8192 → Fin 64 → ℝ) (w : Fin 64 → Fin 128 → ℝ) (hx : ∀ r k, X (ix3 0 r k) = (x r k : EReal))
    (hw : ∀ j k, W (ix2 j k) = (w j k : EReal)) (G : FVec Ideal S1x8192x16x64 .f32) (r r' : Fin 8192) (s : Fin 16) (j : Fin 64)
    (hG : ∀ k, G (ix4 0 r s k) = X (ix3 0 r' k)) : layer W b (edges X G) (ix4 0 r s j) = other X W r' j + centre X W b r j := by
  rw [layer_at, split_sum]
  unfold other centre
  have e1 : ∀ k : Fin 64, edges X G (ix4 0 r s ⟨k.val, by have := k.isLt; omega⟩) = (x r k : EReal) := fun k => by
    rw [edges_at, dif_pos (show k.val < 64 from k.isLt), hx]
  have e2 : ∀ k : Fin 64, edges X G (ix4 0 r s ⟨64 + k.val, by have := k.isLt; omega⟩) = (x r' k : EReal) - (x r k : EReal) := fun k => by
    rw [edges_at, dif_neg (show ¬64 + k.val < 64 by omega), hG, hx, hx]
    have h : (⟨64 + k.val - 64, by have := k.isLt; omega⟩ : Fin 64) = k := Fin.ext (by show 64 + k.val - 64 = k.val; omega)
    exact congrArg₂ (fun a c : Fin 64 => (x r' a : EReal) - (x r c : EReal)) h h
  simp only [e1, e2, hx, hw]
  exact shares _ _ _ _ _

/-- The result at row `r` and column `j`: the largest of what the first sixteen rows in order bring. -/
theorem result_at (x : Fin 8192 → Fin 64 → ℝ) (w : Fin 64 → Fin 128 → ℝ) (hx : ∀ r k, X (ix3 0 r k) = (x r k : EReal))
    (hw : ∀ j k, W (ix2 j k) = (w j k : EReal)) (r : Fin 8192) (j : Fin 64) :
    result X W b W' b' (ix3 0 r j)
      = Finset.univ.fold max ⊥ fun s : Fin 16 => brought X W b W' b' r (order X r ⟨s.val, by have := s.isLt; omega⟩) j := by
  unfold result
  rw [largest_at]
  refine Finset.fold_congr fun s _ => ?_
  rw [acted_at, layer'_at]
  unfold brought
  refine congrArg act₁ (congrArg₂ (fun x y : EReal => x + y) (Finset.sum_congr rfl fun k _ =>
    congrArg₂ (fun x y : EReal => x * y) ?_ rfl) rfl)
  rw [acted_at]
  refine congrArg act₁ (first_layer X W b x w hx hw _ r _ s k fun k => ?_)
  exact gather_at X _ r s k _ (wrapped_at _ r s _ (places_at X r s))

end Cert.Proof.Reference

end
-- ==== Proof.Apart.lean ====
/-
  What the precondition says: the features and the first layer's weights are finite, and of every row's distances the
  sixteenth is below the seventeenth, so the row has a nearest sixteen.
-/
module

public import proofs.«01_k».proof.Proof.Nearest
public import proofs.«01_k».proof.Proof.Reference
public import proofs.«01_k».proof.Proof.Gen.Pre_apart
public import Idealize.ShloMosaic.Lib.ReduceAll

@[expose] public section

set_option maxRecDepth 16384

noncomputable section

namespace Cert.Proof.Apart

open Idealize.ShloMosaic Idealize.SL.Sem Cert.Pre_apart Cert.Pre_apart.Facts Cert.Proof.Nearest
open Cert.Proof.Reference (turned between order order_injective order_surjective order_sorted turned_at along_row)
open Cert.Proof.Whole (ofBool_one ofBits_top)

local instance : Cert.Pre_apart.Facts := Cert.Pre_apart.Gen.facts

variable (X : FVec Ideal S1x8192x64 .f32) (W : FVec Ideal S64x128 .f32) (b : FVec Ideal S64 .f32)
  (W' : FVec Ideal S64x64 .f32) (b' : FVec Ideal S64 .f32)

/-- The seventeen least distances of every row, with their signs turned. -/
def nearest : FVec Ideal S1x8192x17 .f32 :=
  (Host.topK S1x8192x17 2 (FloatOps.cmpfTotal .gt) (turned X) sliceFits_S1x8192x8192_S1x8192x17).1

def finiteX : IVec S1x8192x64 1 :=
  cmpf .olt (Host.absf X) (broadcastInDim S1x8192x64 ![] bcast_S_S1x8192x64 (constant S_ .f32 0x7F800000#32))

def finiteW : IVec S64x128 1 :=
  cmpf .olt (Host.absf W) (broadcastInDim S64x128 ![] bcast_S_S64x128 (constant S_ .f32 0x7F800000#32))

def gap : IVec S1x8192 1 :=
  cmpf .ogt (shapeCast S1x8192 (extractStridedSlice S1x8192x1 ![0, 0, 15] (nearest X) slices_S1x8192x17_S1x8192x1_0_0_15) shapeCasts_S1x8192x1_S1x8192)
    (shapeCast S1x8192 (extractStridedSlice S1x8192x1 ![0, 0, 16] (nearest X) slices_S1x8192x17_S1x8192x1_0_0_16) shapeCasts_S1x8192x1_S1x8192)

theorem fn_eq : Cert.Pre_apart.fn (F := Ideal) X W b W' b'
    = andi (andi (Host.reduce IntOp.andi (finiteX X) (constantI S_ 1 1#1) reducesTo_S1x8192x64_S_d0_1_2 h_S_)
        (Host.reduce IntOp.andi (finiteW W) (constantI S_ 1 1#1) reducesTo_S64x128_S_d0_1 h_S_))
      (Host.reduce IntOp.andi (gap X) (constantI S_ 1 1#1) reducesTo_S1x8192_S_d0_1 h_S_) := rfl

theorem finiteX_at (i : S1x8192x64.Idx) : finiteX X i = Ideal.cmp .olt (max (X i) (-X i)) ⊤ := by
  rw [← ofBits_top]
  rfl

theorem finiteW_at (i : S64x128.Idx) : finiteW W i = Ideal.cmp .olt (max (W i) (-W i)) ⊤ := by
  rw [← ofBits_top]
  rfl

theorem nearest_at (r : Fin 8192) (s : Fin 17) : nearest X (ix3 0 r s) = -between X r (order X r ⟨s.val, by have := s.isLt; omega⟩) := by
  rw [← turned_at]
  unfold nearest Host.topK Host.sort2
  pointwise
  unfold order
  simp only [along_row]

theorem gap_at (r : Fin 8192) : gap X (ix2 0 r)
    = Ideal.cmp .ogt (-between X r (order X r 15)) (-between X r (order X r 16)) := by
  have h15 : nearest X (ix3 0 r 15) = -between X r (order X r 15) := nearest_at X r 15
  have h16 : nearest X (ix3 0 r 16) = -between X r (order X r 16) := nearest_at X r 16
  rw [← h15, ← h16]
  pointwise [gap]

instance : Subsingleton S_.Idx := ⟨fun a b => funext fun i => i.elim0⟩

/-- A number whose size is below infinity is a real number. -/
theorem real_of_small (x : EReal) (h : Ideal.cmp .olt (max x (-x)) ⊤ = 1#1) : ∃ y : ℝ, x = (y : EReal) := by
  have h' : max x (-x) < ⊤ := by
    have e : Ideal.cmp .olt (max x (-x)) ⊤ = BitVec.ofBool (decide (max x (-x) < ⊤)) := rfl
    rw [e, ofBool_one, decide_eq_true_iff] at h
    exact h
  rw [max_lt_iff] at h'
  induction x with
  | bot => exact absurd h'.2 (by simp)
  | coe y => exact ⟨y, rfl⟩
  | top => exact absurd h'.1 (by simp)

theorem facts_of_pre (h : Cert.Pre_apart.fn (F := Ideal) X W b W' b' = fun _ => 1#1) :
    (∃ x : Fin 8192 → Fin 64 → ℝ, ∀ r k, X (ix3 0 r k) = (x r k : EReal))
      ∧ (∃ w : Fin 64 → Fin 128 → ℝ, ∀ j k, W (ix2 j k) = (w j k : EReal))
      ∧ ∀ r, between X r (order X r 15) < between X r (order X r 16) := by
  have e := congrFun h (ix0 : S_.Idx)
  rw [fn_eq] at e
  obtain ⟨e12, e3⟩ := IntOp.andi_eq_one.1 e
  obtain ⟨e1, e2⟩ := IntOp.andi_eq_one.1 e12
  have h1 : ∀ r k, ∃ y : ℝ, X (ix3 0 r k) = (y : EReal) := fun r k =>
    real_of_small _ ((finiteX_at X _).symm.trans (Host.reduce_andi_all _ _ _ _ _ e1 (ix3 0 r k)))
  have h2 : ∀ j k, ∃ y : ℝ, W (ix2 j k) = (y : EReal) := fun j k =>
    real_of_small _ ((finiteW_at W _).symm.trans (Host.reduce_andi_all _ _ _ _ _ e2 (ix2 j k)))
  refine ⟨⟨fun r k => (h1 r k).choose, fun r k => (h1 r k).choose_spec⟩, ⟨fun j k => (h2 j k).choose, fun j k => (h2 j k).choose_spec⟩, fun r => ?_⟩
  have h3 := (gap_at X r).symm.trans (Host.reduce_andi_all _ _ _ _ _ e3 (ix2 0 r))
  have e : Ideal.cmp .ogt (-between X r (order X r 15)) (-between X r (order X r 16))
      = BitVec.ofBool (decide (-between X r (order X r 16) < -between X r (order X r 15))) := rfl
  rw [e, ofBool_one, decide_eq_true_iff, EReal.neg_lt_neg_iff] at h3
  exact h3

/-- The first sixteen rows in the order seen from row `r`. -/
def sixteen (r : Fin 8192) : Finset ℕ :=
  Finset.univ.image fun s : Fin 16 => (order X r ⟨s.val, by have := s.isLt; omega⟩).val

/-- Where the sixteenth distance is below the seventeenth, those rows are exactly the ones nearer than the seventeenth. -/
theorem apart_sixteen (D : ℕ → EReal) (r : Fin 8192) (hD : ∀ r' : Fin 8192, D r'.val = between X r r')
    (h : between X r (order X r 15) < between X r (order X r 16)) : Apart D (sixteen X r) := by
  refine ⟨?_, between X r (order X r 16), fun x => ⟨fun hx => ?_, fun ⟨hx, hlt⟩ => ?_⟩⟩
  · rw [sixteen, Finset.card_image_of_injective, Finset.card_univ, Fintype.card_fin]
    intro s s' e
    have e' := order_injective X r (Fin.ext e)
    exact Fin.ext (Fin.mk.inj e')
  · obtain ⟨s, -, rfl⟩ := Finset.mem_image.mp hx
    refine ⟨Fin.isLt _, ?_⟩
    rw [hD]
    refine lt_of_le_of_lt ?_ h
    rcases lt_or_eq_of_le (show s.val ≤ 15 by have := s.isLt; omega) with hs | hs
    · exact order_sorted X r (show (⟨s.val, _⟩ : Fin 8192) < 15 from hs)
    · exact le_of_eq (congrArg (fun i => between X r (order X r i)) (Fin.ext hs))
  · obtain ⟨i, hi⟩ := order_surjective X r ⟨x, hx⟩
    have e : D x = between X r (order X r i) := by rw [hi]; exact hD ⟨x, hx⟩
    rw [e] at hlt
    have hi16 : i.val < 16 := by
      by_contra hge
      rcases lt_or_eq_of_le (show 16 ≤ i.val by omega) with hs | hs
      · exact absurd hlt (not_lt.mpr (order_sorted X r (show (16 : Fin 8192) < i from hs)))
      · have : (16 : Fin 8192) = i := Fin.ext hs
        rw [this] at hlt
        exact lt_irrefl _ hlt
    refine Finset.mem_image.mpr ⟨⟨i.val, hi16⟩, Finset.mem_univ _, ?_⟩
    have : (⟨i.val, i.isLt⟩ : Fin 8192) = i := rfl
    show (order X r ⟨i.val, _⟩).val = x
    rw [this, hi]

end Cert.Proof.Apart

end
-- ==== Proof.Equation.lean ====
/-
  The whole program's claims: its frame, the reference's, and the equation of their results, where the features and the
  first layer's weights are finite and every row has a nearest sixteen.
-/
module

public import proofs.«01_k».proof.Defs
public import proofs.«01_k».proof.Proof.Values
public import proofs.«01_k».proof.Proof.Apart
public import Idealize.ShloMosaic.Lib.Quiescent

@[expose] public section

set_option maxRecDepth 16384

noncomputable section

namespace Cert.Proof.Whole

open Idealize.ShloMosaic Idealize.SL.Sem Cert.KernelIdeal Cert.KernelIdeal.Gen Cert.Proof.Nearest
open Idealize.ShloMosaic.TcCoe

local instance : Cert.Pre_apart.Facts := Cert.Pre_apart.Gen.facts

/-- A largest over sixteen rows depends on the set of the rows alone. -/
theorem largest_congr (f : Fin 8192 → EReal) (σ σ' : Fin 16 → Fin 8192)
    (h : (Finset.univ.image fun k => (σ k).val) = Finset.univ.image fun k => (σ' k).val) :
    (Finset.univ.fold max ⊥ fun s => f (σ s)) = Finset.univ.fold max ⊥ fun s => f (σ' s) := by
  have key : ∀ α β : Fin 16 → Fin 8192, (Finset.univ.image fun k => (α k).val) ⊆ (Finset.univ.image fun k => (β k).val) →
      (Finset.univ.sup fun s => f (α s)) ≤ Finset.univ.sup fun s => f (β s) := fun α β hs =>
    Finset.sup_le fun s _ => by
      obtain ⟨t, -, e⟩ := Finset.mem_image.mp (hs (Finset.mem_image.mpr ⟨s, Finset.mem_univ _, rfl⟩))
      have e' : β t = α s := Fin.ext e
      rw [← e']
      exact Finset.le_sup (f := fun s => f (β s)) (Finset.mem_univ t)
  exact le_antisymm (key σ σ' h.le) (key σ' σ h.ge)

section Pre

variable (m : (ℓ : Loc nD τ sig) → Buf (Elt Ideal) ℓ) (hpre : Cert.Pre_KernelIdeal m)

include hpre

theorem pre_apart (c : Dev nD) (r : Fin 8192) : Apart (farOf m c r) (Cert.Proof.Apart.sixteen (feat m c) r) := by
  obtain ⟨-, -, h⟩ := Cert.Proof.Apart.facts_of_pre (feat m c) (wOne m c) (bOne m c) (wTwo m c) (bTwo m c) (hpre c)
  exact Cert.Proof.Apart.apart_sixteen (feat m c) _ r (fun r' => dif_pos r'.isLt) (h r)

theorem idx_fine : Cert.Proof.Call.IdxOK (cIdx m) := idx_ok m fun d r => ⟨_, pre_apart m hpre d r⟩

/-- The program's result is the reference's, of the same arguments. -/
theorem results_eq (c : Dev nD) : W₇ m c (Proc.devRef .tc main_v14)
    = Cert.Proof.Reference.result (feat m c) (wOne m c) (bOne m c) (wTwo m c) (bTwo m c) := by
  obtain ⟨⟨x, hx⟩, ⟨w, hw⟩, -⟩ := Cert.Proof.Apart.facts_of_pre (feat m c) (wOne m c) (bOne m c) (wTwo m c) (bTwo m c) (hpre c)
  funext i
  have hi : i = ix3 0 (i 1) (i 2) := by
    refine (eq_ix3 i).trans ?_
    exact congrArg (fun a => ix3 a (i 1) (i 2)) (Subsingleton.elim (α := Fin 1) _ _)
  rw [hi]
  obtain ⟨σ, hσ, e⟩ := seven_at m c (i 1) (i 2) (pre_apart m hpre c (i 1))
  refine e.trans (Eq.trans ?_ (Cert.Proof.Reference.result_at _ _ _ _ _ x w hx hw (i 1) (i 2)).symm)
  exact largest_congr (fun r' => brought m c (i 1) r' (i 2)) σ _ hσ

end Pre

/-- Every argument ends as it began. -/
theorem args_end (m : (ℓ : Loc nD τ sig) → Buf (Elt Ideal) ℓ) (r : PUnit × MemSt nD τ sig (Elt Ideal)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hm : ∀ b : Ref sig .tc, b ∈ ([main_arg0, main_arg1, main_arg2, main_arg3, main_arg4] : List (Ref sig .tc)) →
      r.2.mem (c, Proc.devRef .tc b) = m (c, Proc.devRef .tc b) := fun b hb =>
    (h.1 c (Proc.devRef .tc b) (by
      simp only [List.mem_cons, List.not_mem_nil, or_false] at hb
      rcases hb with rfl | rfl | rfl | rfl | rfl <;> decide)).trans (seven_arg m c b hb)
  exact ⟨hm main_arg0 (by simp), hm main_arg1 (by simp), hm main_arg2 (by simp), hm main_arg3 (by simp), hm main_arg4 (by simp)⟩

theorem frame_ideal : Cert.quiescent_KernelIdeal := fun m ρ hpre =>
  (θ_run Cert.KernelIdeal.defs _ _).mono (fun r h =>
      ⟨fun c => args_end m r h c, h.2⟩)
    (run_main (F := Ideal) m ρ (idx_fine m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem equation : Cert.algebraic_KernelIdeal_ReferenceIdeal := fun m g m' g' hpre hagree =>
  ⟨fun c => W₇ m c (Proc.devRef .tc main_v14),
    (θ_run Cert.KernelIdeal.defs _ _).mono (fun r h c =>
      ⟨h.1 c (Proc.devRef .tc main_v14) (by decide), args_end m r h c⟩)
      (run_main (F := Ideal) m g (idx_fine m hpre)),
    (θ_run Cert.ReferenceIdeal.defs _ _).mono (fun r h c => ⟨(h c).1.trans (by
        rw [Cert.Proof.Reference.res_eq, (hagree c).1, (hagree c).2.1, (hagree c).2.2.1, (hagree c).2.2.2.1, (hagree c).2.2.2.2]
        exact (results_eq m hpre c).symm), (h c).2⟩)
      (Cert.ReferenceIdeal.Value.run (F := Ideal) m' g')⟩

end Cert.Proof.Whole

end
-- ==== Proof.lean ====
/-
  The certificate's claim, from the modules beside this one: of the whole program, its frame and its reference's and the
  equation of their results (`Proof/Equation.lean`); of the row gather alone, its three frames and the equation of its
  result with its reference's (`Proof/GatherReference.lean`).
-/
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherRefIdeal
public import proofs.«01_k».proof.Proof.Gen.Pre_idx_in_rows
public import proofs.«01_k».proof.Proof.Gen.GatherRefIdeal.Run
public import proofs.«01_k».proof.Proof.GatherReference
public import proofs.«01_k».proof.Proof.Equation
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_apart
public import Idealize.ShloMosaic.Adequacy
public import Idealize.ShloMosaic.Init

@[expose] public section

noncomputable section

namespace Cert.Proof

open Idealize.ShloMosaic Idealize.SL.Sem Cert.Gather

theorem claim : Cert.Claim := ⟨Cert.KernelIdeal.Gen.facts, Cert.ReferenceIdeal.Gen.facts, Cert.Gather.Gen.facts, Cert.GatherIdeal.Gen.facts,
  Cert.GatherRefIdeal.Gen.facts, Cert.Pre_apart.Gen.facts, Cert.Pre_idx_in_rows.Gen.facts,
  Whole.frame_ideal, Whole.frame_reference, Gather.frame_bits, Gather.frame_ideal, Gather.frame_reference,
  Whole.equation, trivial, Gather.equation⟩

end Cert.Proof

end
